-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite_KernelIdeal [hPre_router_finite_KernelIdeal : Cert.Pre_router_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite_ReferenceIdeal [hPre_router_finite_ReferenceIdeal : Cert.Pre_router_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_finite_KernelIdeal [hKernelIdeal : Cert.KernelIdeal.Facts] [hPre_router_finite_KernelIdeal : Cert.Pre_router_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_finite_ReferenceIdeal [hReferenceIdeal : Cert.ReferenceIdeal.Facts] [hPre_router_finite_ReferenceIdeal : Cert.Pre_router_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_router_finite_KernelIdeal [hKernelIdeal : Cert.KernelIdeal.Facts] [hReferenceIdeal : Cert.ReferenceIdeal.Facts] [hPre_router_finite_KernelIdeal : Cert.Pre_router_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_finite_KernelIdeal : Cert.Pre_router_finite_KernelIdeal.Facts) (hPre_router_finite_ReferenceIdeal : Cert.Pre_router_finite_ReferenceIdeal.Facts),
    quiescent_Kernel (hKernel := hKernel)
    ∧ quiescent_KernelIdeal (hKernelIdeal := hKernelIdeal)
    ∧ quiescent_KernelIdeal_pre_router_finite_KernelIdeal (hKernelIdeal := hKernelIdeal) (hPre_router_finite_KernelIdeal := hPre_router_finite_KernelIdeal)
    ∧ quiescent_ReferenceIdeal (hReferenceIdeal := hReferenceIdeal)
    ∧ quiescent_ReferenceIdeal_pre_router_finite_ReferenceIdeal (hReferenceIdeal := hReferenceIdeal) (hPre_router_finite_ReferenceIdeal := hPre_router_finite_ReferenceIdeal)
    ∧ preserves_Kernel_KernelIdeal
    ∧ algebraic_KernelIdeal_ReferenceIdeal_pre_router_finite_KernelIdeal (hKernelIdeal := hKernelIdeal) (hReferenceIdeal := hReferenceIdeal) (hPre_router_finite_KernelIdeal := hPre_router_finite_KernelIdeal)
-- ==== Pre_router_finite_KernelIdeal.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S2048x512 .bf16) (main_arg1 : FVec F S512x16 .bf16) (main_arg2 : IVec S2048x1 32) (main_arg3 : FVec F S4x512x1024 .bf16) (main_arg4 : FVec F S512x1024 .bf16) : IVec S_ 1 :=
  let main_v0 : FVec F S2048x512 .f32 := (extf .f32 · bitsLt_bf16_f32) main_arg0
  let main_v1 : FVec F S512x16 .f32 := (extf .f32 · bitsLt_bf16_f32) main_arg1
  let main_v2 : FVec F S2048x512 .f32 := Host.absf main_v0
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_c : IVec S_ 1 := constantI S_ 1 1#1
  let main_v5 : IVec S_ 1 := (fun x v => Host.reduce IntOp.andi x v reducesTo_S2048x512_S_d0_1 h_S_) main_v4 main_c
  let main_v6 : FVec F S512x16 .f32 := Host.absf main_v1
  let main_cst_0 : FVec F S_ .f32 := constant S_ .f32 0x7F800000#32
  let main_v7 : FVec F S512x16 .f32 := broadcastInDim S512x16 ![] bcast_S_S512x16 main_cst_0
  let main_v8 : IVec S512x16 1 := cmpf .olt main_v6 main_v7
  let main_c_1 : IVec S_ 1 := constantI S_ 1 1#1
  let main_v9 : IVec S_ 1 := (fun x v => Host.reduce IntOp.andi x v reducesTo_S512x16_S_d0_1 h_S_) main_v8 main_c_1
  let main_v10 : IVec S_ 1 := andi main_v5 main_v9
  main_v10
-- ==== Pre_router_finite_ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S2048x512 .bf16) (main_arg1 : FVec F S512x16 .bf16) (main_arg2 : IVec S2048x1 32) (main_arg3 : FVec F S16x512x1024 .bf16) (main_arg4 : FVec F S512x1024 .bf16) : IVec S_ 1 :=
  let main_v0 : FVec F S2048x512 .f32 := (extf .f32 · bitsLt_bf16_f32) main_arg0
  let main_v1 : FVec F S512x16 .f32 := (extf .f32 · bitsLt_bf16_f32) main_arg1
  let main_v2 : FVec F S2048x512 .f32 := Host.absf main_v0
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_c : IVec S_ 1 := constantI S_ 1 1#1
  let main_v5 : IVec S_ 1 := (fun x v => Host.reduce IntOp.andi x v reducesTo_S2048x512_S_d0_1 h_S_) main_v4 main_c
  let main_v6 : FVec F S512x16 .f32 := Host.absf main_v1
  let main_cst_0 : FVec F S_ .f32 := constant S_ .f32 0x7F800000#32
  let main_v7 : FVec F S512x16 .f32 := broadcastInDim S512x16 ![] bcast_S_S512x16 main_cst_0
  let main_v8 : IVec S512x16 1 := cmpf .olt main_v6 main_v7
  let main_c_1 : IVec S_ 1 := constantI S_ 1 1#1
  let main_v9 : IVec S_ 1 := (fun x v => Host.reduce IntOp.andi x v reducesTo_S512x16_S_d0_1 h_S_) main_v8 main_c_1
  let main_v10 : IVec S_ 1 := andi main_v5 main_v9
  main_v10
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2048x4 : Shape := ⟨2, ![2048, 4]⟩
abbrev S48x512x128 : Shape := ⟨3, ![48, 512, 128]⟩
abbrev S48 : Shape := ⟨1, ![48]⟩
abbrev S_ : Shape := ⟨0, ![]⟩
abbrev S2048x16 : Shape := ⟨2, ![2048, 16]⟩
abbrev S2048 : Shape := ⟨1, ![2048]⟩
abbrev S1x512x1024 : Shape := ⟨3, ![1, 512, 1024]⟩
abbrev S2560x1024 : Shape := ⟨2, ![2560, 1024]⟩
abbrev S512x512 : Shape := ⟨2, ![512, 512]⟩
abbrev S512x4 : Shape := ⟨2, ![512, 4]⟩
abbrev S512x1 : Shape := ⟨2, ![512, 1]⟩
abbrev S512x2560 : Shape := ⟨2, ![512, 2560]⟩
abbrev S1 : Shape := ⟨1, ![1]⟩
abbrev S1x512x128 : Shape := ⟨3, ![1, 512, 128]⟩
abbrev S512x128 : Shape := ⟨2, ![512, 128]⟩

abbrev nBuf : Space → Nat
  | .hbm => 6
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S4x512x1024, .bf16⟩
  | .hbm, ⟨4, _⟩ => ⟨S512x1024, .bf16⟩
  | .hbm, ⟨5, _⟩ => ⟨S2048x1024, .bf16⟩
  | .local _ .vmem, ⟨0, _⟩ => ⟨S2048x512, .bf16⟩
  | .local _ .vmem, ⟨1, _⟩ => ⟨S512x16, .bf16⟩
  | .local _ .vmem, ⟨2, _⟩ => ⟨S2048x1, .i32⟩
  | .local _ .vmem, ⟨3, _⟩ => ⟨S4x512x1024, .bf16⟩
  | .local _ .vmem, ⟨4, _⟩ => ⟨S512x1024, .bf16⟩
  | .local _ .vmem, ⟨5, _⟩ => ⟨S2048x1024, .bf16⟩
  | .local _ .vmem, ⟨6, _⟩ => ⟨S2048x4, .f32⟩
  | .local _ .vmem, ⟨7, _⟩ => ⟨S48x512x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.addi v2 c0_i32_53
  let c8_i32 : BitVec 32 := 8#32
  let v92 : BitVec 32 := Scalar.addi v91 c8_i32
  let c4_i32_54 : BitVec 32 := 4#32
  let v93 : BitVec 32 := Scalar.remsi v92 c4_i32_54
  let c512_i32 : BitVec 32 := 512#32
  let v94 : BitVec 32 := Scalar.muli v93 c512_i32
  let v95 : Index := Scalar.indexCast v94
  let c0_55 : Index := 0#32
  ![v95.toNat, 0]
def k0_off1_at (r : Fin 4) : BitVec 32 :=
  if r.val < 2 then
    if r.val < 1 then
      0#32
    else
      4294967295#32
  else
    if r.val < 3 then
      1#32
    else
      2#32
def k0_off2 (d0 : Dev nD) (c0_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.addi v2 c0_i32_53
  let c8_i32 : BitVec 32 := 8#32
  let v92 : BitVec 32 := Scalar.addi v91 c8_i32
  let c4_i32_54 : BitVec 32 := 4#32
  let v93 : BitVec 32 := Scalar.remsi v92 c4_i32_54
  let c512_i32 : BitVec 32 := 512#32
  let v94 : BitVec 32 := Scalar.muli v93 c512_i32
  let v98 : Index := Scalar.indexCast v94
  let c0_56 : Index := 0#32
  ![v98.toNat, 0]
def k0_off2_at (r : Fin 4) : BitVec 32 :=
  if r.val < 2 then
    if r.val < 1 then
      0#32
    else
      4294967295#32
  else
    if r.val < 3 then
      1#32
    else
      2#32
def k0_off3 (d0 : Dev nD) (c0_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.addi v2 c0_i32_53
  let c8_i32 : BitVec 32 := 8#32
  let v92 : BitVec 32 := Scalar.addi v91 c8_i32
  let c4_i32_54 : BitVec 32 := 4#32
  let v93 : BitVec 32 := Scalar.remsi v92 c4_i32_54
  let c512_i32 : BitVec 32 := 512#32
  let v94 : BitVec 32 := Scalar.muli v93 c512_i32
  let v116 : Index := Scalar.indexCast v94
  let c0_58 : Index := 0#32
  ![v116.toNat, 0]
def k0_off3_at (r : Fin 4) : BitVec 32 :=
  if r.val < 2 then
    if r.val < 1 then
      0#32
    else
      4294967295#32
  else
    if r.val < 3 then
      1#32
    else
      2#32
def k0_off4 (d0 : Dev nD) (c0_i32_59 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c0_i32_59
  let c8_i32_60 : BitVec 32 := 8#32
  let v119 : BitVec 32 := Scalar.addi v118 c8_i32_60
  let c4_i32_61 : BitVec 32 := 4#32
  let v120 : BitVec 32 := Scalar.remsi v119 c4_i32_61
  let c512_i32_65 : BitVec 32 := 512#32
  let v124 : BitVec 32 := Scalar.muli v120 c512_i32_65
  let c0_i32_73 : BitVec 32 := 0#32
  ![v124.toNat, 0]
def k0_off4_at (r : Fin 4) : BitVec 32 :=
  if r.val < 2 then
    if r.val < 1 then
      0#32
    else
      4294967295#32
  else
    if r.val < 3 then
      4294967294#32
    else
      1#32
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_69 : BitVec 32 := 1#32
  let v125 : BitVec 32 := Scalar.muli v7 c1_i32_69
  let v126 : BitVec 32 := Scalar.addi c0_i32_70 v125
  v126.toNat
def k0_off5 (d0 : Dev nD) (c0_i32_59 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c0_i32_59
  let c8_i32_60 : BitVec 32 := 8#32
  let v119 : BitVec 32 := Scalar.addi v118 c8_i32_60
  let c4_i32_61 : BitVec 32 := 4#32
  let v120 : BitVec 32 := Scalar.remsi v119 c4_i32_61
  let c512_i32_74 : BitVec 32 := 512#32
  let v134 : BitVec 32 := Scalar.muli v120 c512_i32_74
  let c128_i32 : BitVec 32 := 128#32
  ![v134.toNat, 128]
def k0_off5_at (r : Fin 4) : BitVec 32 :=
  if r.val < 2 then
    if r.val < 1 then
      0#32
    else
      4294967295#32
  else
    if r.val < 3 then
      4294967294#32
    else
      1#32
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_78 : BitVec 32 := 1#32
  let v135 : BitVec 32 := Scalar.muli v7 c1_i32_78
  let v136 : BitVec 32 := Scalar.addi c0_i32_79 v135
  v136.toNat
def k0_off6 (d0 : Dev nD) (c0_i32_59 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c0_i32_59
  let c8_i32_60 : BitVec 32 := 8#32
  let v119 : BitVec 32 := Scalar.addi v118 c8_i32_60
  let c4_i32_61 : BitVec 32 := 4#32
  let v120 : BitVec 32 := Scalar.remsi v119 c4_i32_61
  let c512_i32_82 : BitVec 32 := 512#32
  let v144 : BitVec 32 := Scalar.muli v120 c512_i32_82
  let c256_i32 : BitVec 32 := 256#32
  ![v144.toNat, 256]
def k0_off6_at (r : Fin 4) : BitVec 32 :=
  if r.val < 2 then
    if r.val < 1 then
      0#32
    else
      4294967295#32
  else
    if r.val < 3 then
      4294967294#32
    else
      1#32
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_86 : BitVec 32 := 1#32
  let v145 : BitVec 32 := Scalar.muli v7 c1_i32_86
  let v146 : BitVec 32 := Scalar.addi c0_i32_87 v145
  v146.toNat
def k0_off7 (d0 : Dev nD) (c0_i32_59 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c0_i32_59
  let c8_i32_60 : BitVec 32 := 8#32
  let v119 : BitVec 32 := Scalar.addi v118 c8_i32_60
  let c4_i32_61 : BitVec 32 := 4#32
  let v120 : BitVec 32 := Scalar.remsi v119 c4_i32_61
  let c512_i32_90 : BitVec 32 := 512#32
  let v154 : BitVec 32 := Scalar.muli v120 c512_i32_90
  let c384_i32 : BitVec 32 := 384#32
  ![v154.toNat, 384]
def k0_off7_at (r : Fin 4) : BitVec 32 :=
  if r.val < 2 then
    if r.val < 1 then
      0#32
    else
      4294967295#32
  else
    if r.val < 3 then
      4294967294#32
    else
      1#32
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_94 : BitVec 32 := 1#32
  let v155 : BitVec 32 := Scalar.muli v7 c1_i32_94
  let v156 : BitVec 32 := Scalar.addi c0_i32_95 v155
  v156.toNat
def k0_off8 (d0 : Dev nD) (c0_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.addi v2 c0_i32_62
  let c8_i32_63 : BitVec 32 := 8#32
  let v122 : BitVec 32 := Scalar.addi v121 c8_i32_63
  let c4_i32_64 : BitVec 32 := 4#32
  let v123 : BitVec 32 := Scalar.remsi v122 c4_i32_64
  let c512_i32_98 : BitVec 32 := 512#32
  let v164 : BitVec 32 := Scalar.muli v123 c512_i32_98
  let c512_i32_106 : BitVec 32 := 512#32
  ![v164.toNat, 512]
def k0_off8_at (r : Fin 4) : BitVec 32 :=
  if r.val < 2 then
    if r.val < 1 then
      0#32
    else
      1#32
  else
    if r.val < 3 then
      2#32
    else
      4294967295#32
def k0_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_102 : BitVec 32 := 1#32
  let v165 : BitVec 32 := Scalar.muli v5 c1_i32_102
  let v166 : BitVec 32 := Scalar.addi c0_i32_103 v165
  v166.toNat
def k0_off9 (d0 : Dev nD) (c0_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.addi v2 c0_i32_62
  let c8_i32_63 : BitVec 32 := 8#32
  let v122 : BitVec 32 := Scalar.addi v121 c8_i32_63
  let c4_i32_64 : BitVec 32 := 4#32
  let v123 : BitVec 32 := Scalar.remsi v122 c4_i32_64
  let c512_i32_107 : BitVec 32 := 512#32
  let v174 : BitVec 32 := Scalar.muli v123 c512_i32_107
  let c640_i32 : BitVec 32 := 640#32
  ![v174.toNat, 640]
def k0_off9_at (r : Fin 4) : BitVec 32 :=
  if r.val < 2 then
    if r.val < 1 then
      0#32
    else
      1#32
  else
    if r.val < 3 then
      2#32
    else
      4294967295#32
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_110 : BitVec 32 := 1#32
  let v175 : BitVec 32 := Scalar.muli v5 c1_i32_110
  let v176 : BitVec 32 := Scalar.addi c0_i32_111 v175
  v176.toNat
def k0_off10 (d0 : Dev nD) (c0_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.addi v2 c0_i32_62
  let c8_i32_63 : BitVec 32 := 8#32
  let v122 : BitVec 32 := Scalar.addi v121 c8_i32_63
  let c4_i32_64 : BitVec 32 := 4#32
  let v123 : BitVec 32 := Scalar.remsi v122 c4_i32_64
  let c512_i32_114 : BitVec 32 := 512#32
  let v184 : BitVec 32 := Scalar.muli v123 c512_i32_114
  let c768_i32 : BitVec 32 := 768#32
  ![v184.toNat, 768]
def k0_off10_at (r : Fin 4) : BitVec 32 :=
  if r.val < 2 then
    if r.val < 1 then
      0#32
    else
      1#32
  else
    if r.val < 3 then
      2#32
    else
      4294967295#32
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_117 : BitVec 32 := 1#32
  let v185 : BitVec 32 := Scalar.muli v5 c1_i32_117
  let v186 : BitVec 32 := Scalar.addi c0_i32_118 v185
  v186.toNat
def k0_off11 (d0 : Dev nD) (c0_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.addi v2 c0_i32_62
  let c8_i32_63 : BitVec 32 := 8#32
  let v122 : BitVec 32 := Scalar.addi v121 c8_i32_63
  let c4_i32_64 : BitVec 32 := 4#32
  let v123 : BitVec 32 := Scalar.remsi v122 c4_i32_64
  let c512_i32_121 : BitVec 32 := 512#32
  let v194 : BitVec 32 := Scalar.muli v123 c512_i32_121
  let c896_i32 : BitVec 32 := 896#32
  ![v194.toNat, 896]
def k0_off11_at (r : Fin 4) : BitVec 32 :=
  if r.val < 2 then
    if r.val < 1 then
      0#32
    else
      1#32
  else
    if r.val < 3 then
      2#32
    else
      4294967295#32
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_124 : BitVec 32 := 1#32
  let v195 : BitVec 32 := Scalar.muli v5 c1_i32_124
  let v196 : BitVec 32 := Scalar.addi c0_i32_125 v195
  v196.toNat
def k0_dev11 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_170 : BitVec 32 := 1#32
  let v280 : BitVec 32 := Scalar.muli v7 c1_i32_170
  let v281 : BitVec 32 := Scalar.addi c0_i32_171 v280
  v281.toNat
def k0_dev12 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_195 : BitVec 32 := 1#32
  let v305 : BitVec 32 := Scalar.muli v7 c1_i32_195
  let v306 : BitVec 32 := Scalar.addi c0_i32_196 v305
  v306.toNat
def k0_dev13 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_220 : BitVec 32 := 1#32
  let v330 : BitVec 32 := Scalar.muli v7 c1_i32_220
  let v331 : BitVec 32 := Scalar.addi c0_i32_221 v330
  v331.toNat
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_245 : BitVec 32 := 1#32
  let v355 : BitVec 32 := Scalar.muli v7 c1_i32_245
  let v356 : BitVec 32 := Scalar.addi c0_i32_246 v355
  v356.toNat
def k0_dev15 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_269 : BitVec 32 := 1#32
  let v380 : BitVec 32 := Scalar.muli v5 c1_i32_269
  let v381 : BitVec 32 := Scalar.addi c0_i32_270 v380
  v381.toNat
def k0_dev16 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_293 : BitVec 32 := 1#32
  let v405 : BitVec 32 := Scalar.muli v5 c1_i32_293
  let v406 : BitVec 32 := Scalar.addi c0_i32_294 v405
  v406.toNat
def k0_dev17 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_317 : BitVec 32 := 1#32
  let v430 : BitVec 32 := Scalar.muli v5 c1_i32_317
  let v431 : BitVec 32 := Scalar.addi c0_i32_318 v430
  v431.toNat
def k0_dev18 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_341 : BitVec 32 := 1#32
  let v455 : BitVec 32 := Scalar.muli v5 c1_i32_341
  let v456 : BitVec 32 := Scalar.addi c0_i32_342 v455
  v456.toNat
def k0_dev19 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_378 : BitVec 32 := 1#32
  let v513 : BitVec 32 := Scalar.muli v7 c1_i32_378
  let v514 : BitVec 32 := Scalar.addi c0_i32_379 v513
  v514.toNat
def k0_dev20 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_402 : BitVec 32 := 1#32
  let v538 : BitVec 32 := Scalar.muli v7 c1_i32_402
  let v539 : BitVec 32 := Scalar.addi c0_i32_403 v538
  v539.toNat
def k0_dev21 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_426 : BitVec 32 := 1#32
  let v563 : BitVec 32 := Scalar.muli v7 c1_i32_426
  let v564 : BitVec 32 := Scalar.addi c0_i32_427 v563
  v564.toNat
def k0_dev22 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_450 : BitVec 32 := 1#32
  let v588 : BitVec 32 := Scalar.muli v7 c1_i32_450
  let v589 : BitVec 32 := Scalar.addi c0_i32_451 v588
  v589.toNat
def k0_dev23 (d0 : Dev nD) : Nat :=
  let c0_i32_475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_474 : BitVec 32 := 1#32
  let v613 : BitVec 32 := Scalar.muli v5 c1_i32_474
  let v614 : BitVec 32 := Scalar.addi c0_i32_475 v613
  v614.toNat
def k0_dev24 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_498 : BitVec 32 := 1#32
  let v638 : BitVec 32 := Scalar.muli v5 c1_i32_498
  let v639 : BitVec 32 := Scalar.addi c0_i32_499 v638
  v639.toNat
def k0_dev25 (d0 : Dev nD) : Nat :=
  let c0_i32_523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_522 : BitVec 32 := 1#32
  let v663 : BitVec 32 := Scalar.muli v5 c1_i32_522
  let v664 : BitVec 32 := Scalar.addi c0_i32_523 v663
  v664.toNat
def k0_dev26 (d0 : Dev nD) : Nat :=
  let c0_i32_547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_546 : BitVec 32 := 1#32
  let v688 : BitVec 32 := Scalar.muli v5 c1_i32_546
  let v689 : BitVec 32 := Scalar.addi c0_i32_547 v688
  v689.toNat
def k0_dev27 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_576 : BitVec 32 := 1#32
  let v719 : BitVec 32 := Scalar.muli v7 c1_i32_576
  let v720 : BitVec 32 := Scalar.addi c0_i32_577 v719
  v720.toNat
def k0_dev28 (d0 : Dev nD) : Nat :=
  let c0_i32_601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_600 : BitVec 32 := 1#32
  let v744 : BitVec 32 := Scalar.muli v7 c1_i32_600
  let v745 : BitVec 32 := Scalar.addi c0_i32_601 v744
  v745.toNat
def k0_dev29 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_624 : BitVec 32 := 1#32
  let v769 : BitVec 32 := Scalar.muli v7 c1_i32_624
  let v770 : BitVec 32 := Scalar.addi c0_i32_625 v769
  v770.toNat
def k0_dev30 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_648 : BitVec 32 := 1#32
  let v794 : BitVec 32 := Scalar.muli v7 c1_i32_648
  let v795 : BitVec 32 := Scalar.addi c0_i32_649 v794
  v795.toNat
def k0_dev31 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_672 : BitVec 32 := 1#32
  let v819 : BitVec 32 := Scalar.muli v5 c1_i32_672
  let v820 : BitVec 32 := Scalar.addi c0_i32_673 v819
  v820.toNat
def k0_dev32 (d0 : Dev nD) : Nat :=
  let c0_i32_697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_696 : BitVec 32 := 1#32
  let v844 : BitVec 32 := Scalar.muli v5 c1_i32_696
  let v845 : BitVec 32 := Scalar.addi c0_i32_697 v844
  v845.toNat
def k0_dev33 (d0 : Dev nD) : Nat :=
  let c0_i32_721 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_720 : BitVec 32 := 1#32
  let v869 : BitVec 32 := Scalar.muli v5 c1_i32_720
  let v870 : BitVec 32 := Scalar.addi c0_i32_721 v869
  v870.toNat
def k0_dev34 (d0 : Dev nD) : Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_744 : BitVec 32 := 1#32
  let v894 : BitVec 32 := Scalar.muli v5 c1_i32_744
  let v895 : BitVec 32 := Scalar.addi c0_i32_745 v894
  v895.toNat
def k0_dev35 (d0 : Dev nD) : Nat :=
  let c0_i32_761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_760 : BitVec 32 := 1#32
  let v910 : BitVec 32 := Scalar.muli v7 c1_i32_760
  let v911 : BitVec 32 := Scalar.addi c0_i32_761 v910
  v911.toNat
def k0_dev36 (d0 : Dev nD) : Nat :=
  let c0_i32_781 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_780 : BitVec 32 := 1#32
  let v930 : BitVec 32 := Scalar.muli v7 c1_i32_780
  let v931 : BitVec 32 := Scalar.addi c0_i32_781 v930
  v931.toNat
def k0_dev37 (d0 : Dev nD) : Nat :=
  let c0_i32_801 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_800 : BitVec 32 := 1#32
  let v950 : BitVec 32 := Scalar.muli v7 c1_i32_800
  let v951 : BitVec 32 := Scalar.addi c0_i32_801 v950
  v951.toNat
def k0_dev38 (d0 : Dev nD) : Nat :=
  let c0_i32_821 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_820 : BitVec 32 := 1#32
  let v970 : BitVec 32 := Scalar.muli v7 c1_i32_820
  let v971 : BitVec 32 := Scalar.addi c0_i32_821 v970
  v971.toNat
def k0_dev39 (d0 : Dev nD) : Nat :=
  let c0_i32_841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_840 : BitVec 32 := 1#32
  let v990 : BitVec 32 := Scalar.muli v5 c1_i32_840
  let v991 : BitVec 32 := Scalar.addi c0_i32_841 v990
  v991.toNat
def k0_dev40 (d0 : Dev nD) : Nat :=
  let c0_i32_861 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_860 : BitVec 32 := 1#32
  let v1010 : BitVec 32 := Scalar.muli v5 c1_i32_860
  let v1011 : BitVec 32 := Scalar.addi c0_i32_861 v1010
  v1011.toNat
def k0_dev41 (d0 : Dev nD) : Nat :=
  let c0_i32_881 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_880 : BitVec 32 := 1#32
  let v1030 : BitVec 32 := Scalar.muli v5 c1_i32_880
  let v1031 : BitVec 32 := Scalar.addi c0_i32_881 v1030
  v1031.toNat
def k0_dev42 (d0 : Dev nD) : Nat :=
  let c0_i32_901 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_900 : BitVec 32 := 1#32
  let v1050 : BitVec 32 := Scalar.muli v5 c1_i32_900
  let v1051 : BitVec 32 := Scalar.addi c0_i32_901 v1050
  v1051.toNat
def k0_dev43 (d0 : Dev nD) : Nat :=
  let c0_i32_923 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_922 : BitVec 32 := 1#32
  let v1071 : BitVec 32 := Scalar.muli v7 c1_i32_922
  let v1072 : BitVec 32 := Scalar.addi c0_i32_923 v1071
  v1072.toNat
def k0_dev44 (d0 : Dev nD) : Nat :=
  let c0_i32_945 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_944 : BitVec 32 := 1#32
  let v1092 : BitVec 32 := Scalar.muli v7 c1_i32_944
  let v1093 : BitVec 32 := Scalar.addi c0_i32_945 v1092
  v1093.toNat
def k0_dev45 (d0 : Dev nD) : Nat :=
  let c0_i32_967 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_966 : BitVec 32 := 1#32
  let v1113 : BitVec 32 := Scalar.muli v7 c1_i32_966
  let v1114 : BitVec 32 := Scalar.addi c0_i32_967 v1113
  v1114.toNat
def k0_dev46 (d0 : Dev nD) : Nat :=
  let c0_i32_989 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_988 : BitVec 32 := 1#32
  let v1134 : BitVec 32 := Scalar.muli v7 c1_i32_988
  let v1135 : BitVec 32 := Scalar.addi c0_i32_989 v1134
  v1135.toNat
def k0_dev47 (d0 : Dev nD) : Nat :=
  let c0_i32_1011 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1010 : BitVec 32 := 1#32
  let v1155 : BitVec 32 := Scalar.muli v5 c1_i32_1010
  let v1156 : BitVec 32 := Scalar.addi c0_i32_1011 v1155
  v1156.toNat
def k0_dev48 (d0 : Dev nD) : Nat :=
  let c0_i32_1033 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1032 : BitVec 32 := 1#32
  let v1176 : BitVec 32 := Scalar.muli v5 c1_i32_1032
  let v1177 : BitVec 32 := Scalar.addi c0_i32_1033 v1176
  v1177.toNat
def k0_dev49 (d0 : Dev nD) : Nat :=
  let c0_i32_1055 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1054 : BitVec 32 := 1#32
  let v1197 : BitVec 32 := Scalar.muli v5 c1_i32_1054
  let v1198 : BitVec 32 := Scalar.addi c0_i32_1055 v1197
  v1198.toNat
def k0_dev50 (d0 : Dev nD) : Nat :=
  let c0_i32_1077 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1076 : BitVec 32 := 1#32
  let v1218 : BitVec 32 := Scalar.muli v5 c1_i32_1076
  let v1219 : BitVec 32 := Scalar.addi c0_i32_1077 v1218
  v1219.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S512x1024 : Shape := ⟨2, ![512, 1024]⟩
abbrev S2048x16 : Shape := ⟨2, ![2048, 16]⟩
abbrev S_ : Shape := ⟨0, ![]⟩
abbrev S2048 : Shape := ⟨1, ![2048]⟩
abbrev S2048x1024 : Shape := ⟨2, ![2048, 1024]⟩
abbrev S16x1024x2048 : Shape := ⟨3, ![16, 1024, 2048]⟩
abbrev S16x2048x1024 : Shape := ⟨3, ![16, 2048, 1024]⟩
abbrev S16 : Shape := ⟨1, ![16]⟩
abbrev S16x1 : Shape := ⟨2, ![16, 1]⟩
abbrev S1x2048 : Shape := ⟨2, ![1, 2048]⟩
abbrev S16x2048 : Shape := ⟨2, ![16, 2048]⟩
abbrev S16x2048x1 : Shape := ⟨3, ![16, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S16x512x1024, .bf16⟩
  | .hbm, ⟨4, _⟩ => ⟨S512x1024, .bf16⟩
  | .hbm, ⟨5, _⟩ => ⟨S2048x512, .f32⟩
  | .hbm, ⟨6, _⟩ => ⟨S512x16, .f32⟩
  | .hbm, ⟨7, _⟩ => ⟨S16x512x1024, .f32⟩
  | .hbm, ⟨8, _⟩ => ⟨S512x1024, .f32⟩
  | .hbm, ⟨9, _⟩ => ⟨S2048x16, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x16, .f32⟩
  | .hbm, ⟨20, _⟩ => ⟨S2048x16, .f32⟩
  | .hbm, ⟨21, _⟩ => ⟨S2048x1024, .f32⟩
  | .hbm, ⟨22, _⟩ => ⟨S16x1024x2048, .f32⟩
  | .hbm, ⟨23, _⟩ => ⟨S16x2048x1024, .f32⟩
  | .hbm, ⟨24, _⟩ => ⟨S16, .i32⟩
  | .hbm, ⟨25, _⟩ => ⟨S16x1, .i32⟩
  | .hbm, ⟨26, _⟩ => ⟨S2048, .i32⟩
  | .hbm, ⟨27, _⟩ => ⟨S1x2048, .i32⟩
  | .hbm, ⟨28, _⟩ => ⟨S16x2048, .i32⟩
  | .hbm, ⟨29, _⟩ => ⟨S16x2048, .i32⟩
  | .hbm, ⟨30, _⟩ => ⟨S16x2048, .i1⟩
  | .hbm, ⟨31, _⟩ => ⟨S16x2048x1, .i1⟩
  | .hbm, ⟨32, _⟩ => ⟨S16x2048, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S_, .f32⟩
  | .hbm, ⟨38, _⟩ => ⟨S16x2048x1024, .i1⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Mesh.lean ====
/-
# `Mesh`: the four devices in their ring, the tiles and slots the copies move, and the cells they signal

The kernel runs six hops over eight lanes; the transfer number `k` (0 … 47) is lane `k % 8` of hop `k / 8`. Lanes 0–3
travel to the next device, lanes 4–7 to the previous one. Lane `l` owns columns `128·l …` of the output, and the tile
number `k` of device `c` is lane `k % 8` of the row chunk that `c` works on at hop `k / 8`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The ring's shift. -/
def ring : Dev nD ≃ Dev nD := ⟨nxt, prv, prv_nxt, nxt_prv⟩

/-- Transfer `k` moves to the next device (lanes 0–3). -/
abbrev right (k : ℕ) : Prop := k % 8 < 4

/-- The device that transfer `k` of `c` goes to. -/
def nb (k : ℕ) (c : Dev nD) : Dev nD := if right k then nxt c else prv c
/-- The device whose transfer `k` comes to `c`. -/
def pv (k : ℕ) (c : Dev nD) : Dev nD := if right k then prv c else nxt c

theorem pv_nb (k : ℕ) (c : Dev nD) : pv k (nb k c) = c := by
  unfold pv nb; split
  · exact prv_nxt c
  · exact nxt_prv c
theorem nb_pv (k : ℕ) (c : Dev nD) : nb k (pv k c) = c := by
  unfold pv nb; split
  · exact nxt_prv c
  · exact prv_nxt c
theorem nb_add8 (k : ℕ) (c : Dev nD) : nb (k + 8) c = nb k c := by
  unfold nb right; rw [Nat.add_mod_right]
theorem pv_add8 (k : ℕ) (c : Dev nD) : pv (k + 8) c = pv k c := by
  unfold pv right; rw [Nat.add_mod_right]

/-- The shift of lane `k`, as a bijection. -/
def ringK (k : ℕ) : Dev nD ≃ Dev nD := ⟨nb k, pv k, pv_nb k, nb_pv k⟩

theorem nb_right {k : ℕ} (h : right k) (c : Dev nD) : nb k c = nxt c := if_pos h
theorem nb_left {k : ℕ} (h : ¬ right k) (c : Dev nD) : nb k c = prv c := if_neg h

/-! ## Chunks and tiles -/

set_option backward.proofsInPublic true in
/-- The row chunk of transfer `k`'s tile on device `c`: its own at hop 0, then one step against the lane's direction a hop. -/
def org (k : ℕ) (c : Dev nD) : Fin 4 := ⟨(c.val + (if right k then 3 else 1) * (k / 8)) % 4, Nat.mod_lt _ (by decide)⟩

theorem org_lt8 {k : ℕ} (h : k < 8) (c : Dev nD) : (org k c).val = c.val := by
  unfold org; dsimp only; rw [Nat.div_eq_of_lt h, Nat.mul_zero, Nat.add_zero]; exact Nat.mod_eq_of_lt c.isLt

/-- One hop later a device works on the chunk its predecessor worked on. -/
theorem org_add8 (k : ℕ) (c : Dev nD) : org (k + 8) c = org k (pv k c) := by
  have hc : c.val < 4 := c.isLt
  have hd : (k + 8) / 8 = k / 8 + 1 := by omega
  apply Fin.ext
  show (c.val + (if (k + 8) % 8 < 4 then 3 else 1) * ((k + 8) / 8)) % 4 = ((pv k c).val + (if k % 8 < 4 then 3 else 1) * (k / 8)) % 4
  rw [Nat.add_mod_right, hd]
  unfold pv right
  split
  · simp only [prv]; omega
  · simp only [nxt]; omega

/-- The output, the communication buffer, the gate buffer and the operands, whole. -/
abbrev xM : Memref sig .tc .vmem S2048x512 .bf16 := Memref.whole cc0_stg0_0
abbrev oM : Memref sig .tc .vmem S2048x1024 .bf16 := Memref.whole cc0_stg5_0
abbrev gM : Memref sig .tc .vmem S2048x4 .f32 := Memref.whole cc0_scratch0
abbrev cM : Memref sig .tc .vmem S48x512x128 .bf16 := Memref.whole cc0_scratch1

/-- Where tile `k` of device `c` starts in the output. -/
abbrev toff (k : ℕ) (c : Dev nD) : Fin 2 → ℕ := ![512 * (org k c).val, 128 * (k % 8)]

theorem toff_inb (k : ℕ) (c : Dev nD) : ∀ a, toff k c a + S512x128.size a ≤ S2048x1024.size a := by
  have h1 : (org k c).val < 4 := (org k c).isLt
  have h2 : k % 8 < 8 := Nat.mod_lt _ (by decide)
  intro a
  fin_cases a
  · show 512 * (org k c).val + 512 ≤ 2048; omega
  · show 128 * (k % 8) + 128 ≤ 1024; omega

/-- Tile `k` of device `c`'s output. -/
abbrev tM (k : ℕ) (c : Dev nD) : Memref sig .tc .vmem S512x128 .bf16 :=
  oM.slice (Rect.unit (s := S2048x1024) (toff k c) S512x128.size (toff_inb k c)) (fun _ => rfl)

/-- A tile of device `c` is named by its chunk and its lane: one hop later the predecessor's tile is the same region. -/
theorem tM_add8 (k : ℕ) (c : Dev nD) : tM (k + 8) c = tM k (pv k c) := by
  refine Memref.slice_unit_congr oM ?_ _ _ _ _
  show ![512 * (org (k + 8) c).val, 128 * ((k + 8) % 8)] = ![512 * (org k (pv k c)).val, 128 * (k % 8)]
  rw [org_add8, Nat.add_mod_right]

theorem slot_inb (k : Fin 48) : ∀ a, (![k.val, 0, 0] : Fin 3 → ℕ) a + S1x512x128.size a ≤ S48x512x128.size a := by
  have h := k.isLt
  intro a
  fin_cases a
  · show k.val + 1 ≤ 48; omega
  · show 0 + 512 ≤ 512; omega
  · show 0 + 128 ≤ 128; omega

/-- Slot `k` of the communication buffer, as its 1×512×128 plane. -/
abbrev pM (k : Fin 48) : Memref sig .tc .vmem S1x512x128 .bf16 :=
  cM.slice (Rect.unit (s := S48x512x128) ![k.val, 0, 0] S1x512x128.size (slot_inb k)) (fun _ => rfl)
/-- Slot `k` of the communication buffer. -/
abbrev sM (k : Fin 48) : Memref sig .tc .vmem S512x128 .bf16 := (pM k).squeeze S512x128 squeezes_S1x512x128_S512x128

/-! ## Semaphores and cells -/

/-- The runtime's barrier semaphore of collective id 0. -/
abbrev barS : Sem sig := (SemArray.scalar (sig.barrier 0 rfl) : Sems sig S_).sem
set_option backward.proofsInPublic true in
/-- Transfer `k`'s send semaphore. -/
abbrev sendS (k : Fin 48) : DmaSem sig := ⟨6 + k.val, by have := k.isLt; show _ < 102; omega⟩
set_option backward.proofsInPublic true in
/-- Transfer `k`'s receive semaphore. -/
abbrev recvS (k : Fin 48) : DmaSem sig := ⟨54 + k.val, by have := k.isLt; show _ < 102; omega⟩

theorem sem1_inb (k : Fin 48) : ∀ a, (![k.val] : Fin 1 → ℕ) a + S1.size a ≤ S48.size a := by
  have h := k.isLt
  intro a
  fin_cases a
  show k.val + 1 ≤ 48; omega

theorem sendS_eq : ∀ k : Fin 48, ((cc0_scratch2.slice (Rect.unit (s := S48) ![k.val] S1.size (sem1_inb k))).squeeze S_ squeezes_S1_S_).sem = sendS k := by
  decide +kernel
theorem recvS_eq : ∀ k : Fin 48, ((cc0_scratch3.slice (Rect.unit (s := S48) ![k.val] S1.size (sem1_inb k))).squeeze S_ squeezes_S1_S_).sem = recvS k := by
  decide +kernel

abbrev barCell (c : Dev nD) : GSem nD τ sig := ((c : Thread nD τ), .reg barS)
abbrev sendCell (k : Fin 48) (c : Dev nD) : GSem nD τ sig := ((c : Thread nD τ), .dma (sendS k))
abbrev recvCell (k : Fin 48) (c : Dev nD) : GSem nD τ sig := ((c : Thread nD τ), .dma (recvS k))

/-- The credit of one transfer. -/
abbrev N : ℕ := (sM 0).view.dmaCredit
theorem N_pos : 0 < N := View.dmaCredit_pos _ (by decide)
theorem N_slot (k : Fin 48) : (sM k).view.dmaCredit = N := rfl
theorem N_tile (k : ℕ) (c : Dev nD) : (tM k c).view.dmaCredit = N := by
  show View.dmaCredit _ = View.dmaCredit _
  first | rfl | decide

end Cert.Moe
-- ==== Proof.Proto.lean ====
/-
# `Proto`: what travels, and the schedule of the semaphores

`P c ch` is the partial product of device `c` for row chunk `ch` (512×1024). `Pt P k c` is its tile for transfer `k`;
`A P k c` is what device `c` sends at transfer `k`, and `S P k c` what lands in its slot `k`.

The protocol. Barrier cell of `c`, round 0: two duties of one unit; the next device hands over its slots of lanes 0–3,
the previous one its slots of lanes 4–7 (the slots `c` will copy into). Send cell `k`: the transfer's source comes back
(hop 3: the tile; hops 4, 5: half of the slot sent on) — at hops 0–2 the source tile travels on with the copy and nothing
comes back. Receive cell `k`: the slot at `S P k c`, and the tiles that travel with it (`Land`): a device's tile goes
round the ring with the sums until hop 3, 4 or 5 brings it back for the final write.
-/
module

public import proofs.«01_k».proof.Proof.Mesh

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

theorem lane_inb (k : ℕ) : ∀ a, (![0, 128 * (k % 8)] : Fin 2 → ℕ) a + S512x128.size a ≤ S512x1024.size a := by
  have h2 : k % 8 < 8 := Nat.mod_lt _ (by decide)
  intro a
  fin_cases a
  · show 0 + 512 ≤ 512; omega
  · show 128 * (k % 8) + 128 ≤ 1024; omega

/-- Lane `k % 8`'s columns of a 512×1024 chunk. -/
abbrev laneR (k : ℕ) : Rect S512x1024 := Rect.unit (s := S512x1024) ![0, 128 * (k % 8)] S512x128.size (lane_inb k)

section Contents
variable (P : Dev nD → Fin 4 → FVec F S512x1024 .bf16)

/-- Tile `k` of device `c`'s partial products. -/
def Pt (k : ℕ) (c : Dev nD) : FVec F S512x128 .bf16 := fun j => P c (org k c) ((laneR k).emb j)

/-- What device `c` sends in lane `l` at a hop: its own tile plus what came in, for three hops; then what came in. -/
def Ah (l : ℕ) : ℕ → Dev nD → FVec F S512x128 .bf16
  | 0, c => Pt P l c
  | h + 1, c => if h < 3 then addf (Pt P (8 * (h + 1) + l) c) (Ah l h (pv l c)) else Ah l h (pv l c)

/-- What device `c` sends at transfer `k`. -/
def A (k : ℕ) (c : Dev nD) : FVec F S512x128 .bf16 := Ah P (k % 8) (k / 8) c
/-- What lands in slot `k` of device `c`. -/
def S (k : ℕ) (c : Dev nD) : FVec F S512x128 .bf16 := A P k (pv k c)

theorem A_first {k : ℕ} (h : k < 8) (c : Dev nD) : A P k c = Pt P k c := by
  unfold A; rw [Nat.mod_eq_of_lt h, Nat.div_eq_of_lt h]; rfl

theorem pv_mod (k : ℕ) (c : Dev nD) : pv (k % 8) c = pv k c := by unfold pv right; rw [Nat.mod_mod]

theorem A_acc {k : ℕ} (h : k < 24) (c : Dev nD) : A P (k + 8) c = addf (Pt P (k + 8) c) (S P k c) := by
  unfold S A
  have h1 : (k + 8) / 8 = k / 8 + 1 := by omega
  have h2 : (k + 8) % 8 = k % 8 := by omega
  have h3 : 8 * (k / 8 + 1) + k % 8 = k + 8 := by omega
  rw [h1, h2, Ah, if_pos (by omega : k / 8 < 3), h3, pv_mod]

theorem A_fwd {k : ℕ} (h : 24 ≤ k) (c : Dev nD) : A P (k + 8) c = S P k c := by
  unfold S A
  have h1 : (k + 8) / 8 = k / 8 + 1 := by omega
  have h2 : (k + 8) % 8 = k % 8 := by omega
  rw [h1, h2, Ah, if_neg (by omega : ¬ k / 8 < 3), pv_mod]

theorem S_nb (k : ℕ) (c : Dev nD) : S P k (nb k c) = A P k c := by unfold S; rw [pv_nb]

end Contents

/-! ## Tiles that travel -/

/-- Half of a full share. -/
abbrev halfL : PosShare TreeShare := fullShare.left
abbrev halfR : PosShare TreeShare := fullShare.right

/-- Tile `k` of device `d`'s output, at some contents. -/
def tE (k : ℕ) (d : Dev nD) : sProp 𝕄 := iprop(∃ X, ownsTc d (tM k d) fullShare X)

instance tE_storable (k : ℕ) (d : Dev nD) : BI.Storable (upEmb : UEmb _ 𝕄) (tE (F := F) k d) := by unfold tE; infer_instance

/-- The tiles of lane `l` that travel on from device `c` at hop `h + 1`, having come with hop `h`. -/
def Trav (l : ℕ) : ℕ → Dev nD → sProp 𝕄
  | 0, c => tE l (pv l c)
  | 1, c => iprop(tE l (pv l (pv l c)) ∗ tE (8 + l) (pv l c))
  | 2, c => iprop(tE l (pv l (pv l (pv l c))) ∗ tE (8 + l) (pv l (pv l c)) ∗ tE (16 + l) (pv l c))
  | 3, c => iprop(tE (8 + l) (pv l (pv l (pv l c))) ∗ tE (16 + l) (pv l (pv l c)))
  | 4, c => tE (16 + l) (pv l (pv l (pv l c)))
  | _, _ => iprop(emp)

/-- The tile of device `c` that hop `h` brings home. -/
def Home (l h : ℕ) (c : Dev nD) : sProp 𝕄 := if 3 ≤ h ∧ h < 6 then tE (8 * (h - 3) + l) c else iprop(emp)

/-- The source tile that travels with hop `h`. -/
def Src (l h : ℕ) (c : Dev nD) : sProp 𝕄 := if h < 3 then tE (8 * h + l) c else iprop(emp)
/-- What came in at the hop before `h`, to travel on. -/
def Came (l h : ℕ) (c : Dev nD) : sProp 𝕄 := if h = 0 then iprop(emp) else Trav l (h - 1) c

instance Trav_storable (l h : ℕ) (d : Dev nD) : BI.Storable (upEmb : UEmb _ 𝕄) (Trav (F := F) l h d) := by
  unfold Trav; split <;> infer_instance
instance Home_storable (l h : ℕ) (d : Dev nD) : BI.Storable (upEmb : UEmb _ 𝕄) (Home (F := F) l h d) := by
  unfold Home; split <;> infer_instance

theorem pv4 (l : ℕ) (c : Dev nD) : pv l (pv l (pv l (pv l c))) = c := by
  unfold pv; split <;> (revert c; decide)

/-- What a device puts on a copy is what the receiver gets: the tiles brought home and those to travel on. -/
theorem land (l h : ℕ) (hh : h < 6) (c : Dev nD) :
    iprop(Src l h c ∗ Came l h c) ⊢ (iprop(Home l h (nb l c) ∗ Trav l h (nb l c)) : sProp 𝕄) := by
  have e1 : pv l (nb l c) = c := pv_nb l c
  have e3 : pv l (pv l (pv l c)) = nb l c := by conv_rhs => rw [← pv4 l c, nb_pv]
  obtain rfl | rfl | rfl | rfl | rfl | rfl : h = 0 ∨ h = 1 ∨ h = 2 ∨ h = 3 ∨ h = 4 ∨ h = 5 := by omega
  · show iprop(tE (8 * 0 + l) c ∗ emp) ⊢ iprop(emp ∗ tE l (pv l (nb l c)))
    rw [e1, Nat.mul_zero, Nat.zero_add]
    iintro ⟨H, -⟩; isplitr; · iempintro
    iexact H
  · show iprop(tE (8 * 1 + l) c ∗ tE l (pv l c)) ⊢ iprop(emp ∗ tE l (pv l (pv l (nb l c))) ∗ tE (8 + l) (pv l (nb l c)))
    rw [e1]
    iintro ⟨H, G⟩; isplitr; · iempintro
    isplitl [G] <;> iassumption
  · show iprop(tE (8 * 2 + l) c ∗ tE l (pv l (pv l c)) ∗ tE (8 + l) (pv l c))
      ⊢ iprop(emp ∗ tE l (pv l (pv l (pv l (nb l c)))) ∗ tE (8 + l) (pv l (pv l (nb l c))) ∗ tE (16 + l) (pv l (nb l c)))
    rw [e1]
    iintro ⟨H, G, G'⟩; isplitr; · iempintro
    isplitl [G]; · iexact G
    isplitl [G'] <;> iassumption
  · show iprop(emp ∗ tE l (pv l (pv l (pv l c))) ∗ tE (8 + l) (pv l (pv l c)) ∗ tE (16 + l) (pv l c))
      ⊢ iprop(tE (8 * 0 + l) (nb l c) ∗ tE (8 + l) (pv l (pv l (pv l (nb l c)))) ∗ tE (16 + l) (pv l (pv l (nb l c))))
    rw [e1, e3, Nat.mul_zero, Nat.zero_add]
    iintro ⟨-, H⟩; iexact H
  · show iprop(emp ∗ tE (8 + l) (pv l (pv l (pv l c))) ∗ tE (16 + l) (pv l (pv l c)))
      ⊢ iprop(tE (8 * 1 + l) (nb l c) ∗ tE (16 + l) (pv l (pv l (pv l (nb l c)))))
    rw [e1, e3]
    iintro ⟨-, H⟩; iexact H
  · show iprop(emp ∗ tE (16 + l) (pv l (pv l (pv l c)))) ⊢ iprop(tE (8 * 2 + l) (nb l c) ∗ emp)
    rw [e3]
    iintro ⟨-, H⟩; isplitl [H]; · iexact H
    iempintro

/-! ## The schedule -/

section Sched
variable (P : Dev nD → Fin 4 → FVec F S512x1024 .bf16)

/-- Slot `k` of device `d`, at some contents. -/
def sE (k : Fin 48) (d : Dev nD) : sProp 𝕄 := iprop(∃ X, ownsTc d (sM k) fullShare X)

instance sE_storable (k : Fin 48) (d : Dev nD) : BI.Storable (upEmb : UEmb _ 𝕄) (sE (F := F) k d) := by unfold sE; infer_instance

/-- What duty `d` of `c`'s barrier cell hands over: the neighbour's slots of one direction. -/
def barPay (c : Dev nD) (d : Bool) : sProp 𝕄 :=
  bigSep Finset.univ fun k : Fin 48 => if decide (right k.val) = d then sE k (nb k.val c) else iprop(emp)

/-- What comes back when transfer `k` of `c` has left. -/
def sendPay (k : Fin 48) (c : Dev nD) : sProp 𝕄 :=
  if k.val < 24 then iprop(emp)
  else if k.val < 32 then ownsTc c (tM k.val c) fullShare (A P k.val c)
  else ownsTc c (sM ⟨k.val - 8, by have := k.isLt; omega⟩) halfL (A P k.val c)

/-- What transfer `k` hands to `c`: the slot filled, the tiles brought home, the tiles to travel on. -/
def recvPay (k : Fin 48) (c : Dev nD) : sProp 𝕄 :=
  iprop(ownsTc c (sM k) fullShare (S P k.val c) ∗ Home (k.val % 8) (k.val / 8) c ∗ Trav (k.val % 8) (k.val / 8) c)

instance barPay_storable (c : Dev nD) (d : Bool) : BI.Storable (upEmb : UEmb _ 𝕄) (barPay (F := F) c d) := by
  unfold barPay
  have : ∀ k : Fin 48, BI.Storable (upEmb : UEmb _ 𝕄) (if decide (right k.val) = d then sE (F := F) k (nb k.val c) else iprop(emp)) := by
    intro k; split <;> infer_instance
  infer_instance
instance sendPay_storable (k : Fin 48) (c : Dev nD) : BI.Storable (upEmb : UEmb _ 𝕄) (sendPay P k c) := by
  unfold sendPay; (repeat' split) <;> infer_instance
instance recvPay_storable (k : Fin 48) (c : Dev nD) : BI.Storable (upEmb : UEmb _ 𝕄) (recvPay P k c) := by
  unfold recvPay; infer_instance

set_option backward.proofsInPublic true in
/-- The transfer that DMA semaphore `q` belongs to. -/
def xfer (q : ℕ) : Fin 48 := ⟨(q + 42) % 48, Nat.mod_lt _ (by decide)⟩

theorem xfer_send (k : Fin 48) : xfer (sendS k).val = k := by
  apply Fin.ext; show (6 + k.val + 42) % 48 = k.val; have := k.isLt; omega
theorem xfer_recv (k : Fin 48) : xfer (recvS k).val = k := by
  apply Fin.ext; show (54 + k.val + 42) % 48 = k.val; have := k.isLt; omega

/-- One round: barrier cells two duties of one unit, the transfers' cells one duty of the copy's credit. -/
def Rd : Rounds.Schedule (GSem nD τ sig) Bool 𝕄 where
  duties g r := if r = 0 ∧ g.1.2 = .tc then
      (match g.2 with
        | .reg s => if s = barS then Finset.univ else ∅
        | .dma q => if 6 ≤ q.val then {false} else ∅)
    else ∅
  unitless _ := False
  amount g _ _ := match g.2 with | .reg _ => 1 | .dma _ => N
  payload g _ d := match g.2 with
    | .reg _ => barPay g.1.1 d
    | .dma q => if 54 ≤ q.val then recvPay P (xfer q.val) g.1.1 else sendPay P (xfer q.val) g.1.1
  amount_pos g _ _ _ := by
    split
    · exact Nat.one_pos
    · exact N_pos

instance Rd_payload_storable (g : GSem nD τ sig) (r : ℕ) (d : Bool) :
    BI.Storable (upEmb : UEmb _ 𝕄) ((Rd P).payload g r d) := by
  show BI.Storable upEmb (match g.2 with
    | .reg _ => barPay g.1.1 d
    | .dma q => if 54 ≤ q.val then recvPay P (xfer q.val) g.1.1 else sendPay P (xfer q.val) g.1.1)
  (repeat' split) <;> infer_instance

variable (c : Dev nD) (k : Fin 48)

theorem duties_bar : (Rd P).duties (barCell c) 0 = Finset.univ := by
  dsimp only [Rd]; rw [if_pos ⟨rfl, rfl⟩]; exact if_pos rfl
theorem duties_send : (Rd P).duties (sendCell k c) 0 = {false} := by
  dsimp only [Rd]; rw [if_pos ⟨rfl, rfl⟩]; exact if_pos (by omega)
theorem duties_recv : (Rd P).duties (recvCell k c) 0 = {false} := by
  dsimp only [Rd]; rw [if_pos ⟨rfl, rfl⟩]; exact if_pos (by omega)
theorem duties_later (g : GSem nD τ sig) : ∀ r, 1 ≤ r → (Rd P).duties g r = ∅ :=
  fun r hr => by dsimp only [Rd]; rw [if_neg fun h => by omega]

theorem amount_bar (d : Bool) : (Rd P).amount (barCell c) 0 d = 1 := rfl
theorem amount_send (d : Bool) : (Rd P).amount (sendCell k c) 0 d = N := rfl
theorem amount_recv (d : Bool) : (Rd P).amount (recvCell k c) 0 d = N := rfl

theorem expect_bar : (Rd P).expect (barCell c) 0 = 2 := by
  unfold Schedule.expect Schedule.amountOf
  rw [duties_bar, Finset.sum_congr rfl fun d _ => amount_bar P c d, Finset.sum_const, Finset.card_univ, Fintype.card_bool, smul_eq_mul]
theorem expect_send : (Rd P).expect (sendCell k c) 0 = N := by
  unfold Schedule.expect Schedule.amountOf; rw [duties_send, Finset.sum_singleton, amount_send]
theorem expect_recv : (Rd P).expect (recvCell k c) 0 = N := by
  unfold Schedule.expect Schedule.amountOf; rw [duties_recv, Finset.sum_singleton, amount_recv]

theorem payload_bar (d : Bool) : (Rd P).payload (barCell c) 0 d = barPay c d := rfl
theorem payload_send (d : Bool) : (Rd P).payload (sendCell k c) 0 d = sendPay P k c := by
  dsimp only [Rd]; rw [if_neg (by have := k.isLt; omega)]; exact congrArg (fun k => sendPay P k c) (xfer_send k)
theorem payload_recv (d : Bool) : (Rd P).payload (recvCell k c) 0 d = recvPay P k c := by
  dsimp only [Rd]; rw [if_pos (by omega)]; exact congrArg (fun k => recvPay P k c) (xfer_recv k)

/-- The barrier round's payloads together: every slot the device will copy into. -/
theorem rest_bar : bigSep ((Rd P).duties (barCell c) 0 \ ∅) (fun d => (Rd P).payload (barCell c) 0 d)
    = bigSep Finset.univ fun k : Fin 48 => sE (F := F) k (nb k.val c) := by
  rw [Finset.sdiff_empty, duties_bar, bigSep_univ_eq_bigSepL [false, true] (by decide) (by decide), bigSepL_cons_cons, bigSepL_singleton,
    payload_bar, payload_bar]
  unfold barPay
  refine (bigSep_sep _ _ _).symm.trans ?_
  refine bigSep_congr fun k _ => ?_
  by_cases h : right k.val
  · rw [decide_eq_true h, if_neg (by decide), if_pos rfl]; exact BI.equiv_iff.mp BI.emp_sep
  · rw [decide_eq_false h, if_pos rfl, if_neg (by decide)]; exact BI.equiv_iff.mp BI.sep_emp
theorem rest_send : bigSep ((Rd P).duties (sendCell k c) 0 \ ∅) (fun d => (Rd P).payload (sendCell k c) 0 d) = sendPay P k c := by
  rw [Finset.sdiff_empty, duties_send, bigSep_singleton, payload_send]
theorem rest_recv : bigSep ((Rd P).duties (recvCell k c) 0 \ ∅) (fun d => (Rd P).payload (recvCell k c) 0 d) = recvPay P k c := by
  rw [Finset.sdiff_empty, duties_recv, bigSep_singleton, payload_recv]

end Sched

/-! ## Debts and levels -/

/-- What device `c` owes to transfer `k`'s receive cell, once `s` transfers have been issued. -/
def owe (c : Dev nD) (s : ℕ) (k : Fin 48) : CellTallies nD τ sig Unit := if s ≤ k.val then tallyAt (recvCell k (nb k.val c)) () N else 0
/-- What device `c` still owes when `s` transfers have been issued. -/
def Os (c : Dev nD) (s : ℕ) : CellTallies nD τ sig Unit := ∑ k : Fin 48, owe c s k
/-- What it owes at launch: besides, one unit to each neighbour's barrier cell. -/
def O₁ (c : Dev nD) : CellTallies nD τ sig Unit := Os c 0 + tallyAt (barCell (nxt c)) () 1
def O₀ (c : Dev nD) : CellTallies nD τ sig Unit := O₁ c + tallyAt (barCell (prv c)) () 1

/-- Issuing transfer `k` pays its debt. -/
theorem Os_step (c : Dev nD) (k : Fin 48) : Os c k.val = Os c (k.val + 1) + tallyAt (recvCell k (nb k.val c)) () N := by
  unfold Os
  rw [← Finset.sum_erase_add _ (owe c k.val) (Finset.mem_univ k), ← Finset.sum_erase_add _ (owe c (k.val + 1)) (Finset.mem_univ k)]
  have h1 : owe c (k.val + 1) k = 0 := if_neg (by omega)
  have h2 : owe c k.val k = tallyAt (recvCell k (nb k.val c)) () N := if_pos (le_refl _)
  rw [h1, h2, add_zero]
  congr 1
  refine Finset.sum_congr rfl fun j hj => ?_
  have hne : j.val ≠ k.val := fun h => Finset.ne_of_mem_erase hj (Fin.ext h)
  unfold owe
  by_cases h : k.val ≤ j.val
  · rw [if_pos h, if_pos (by omega)]
  · rw [if_neg h, if_neg (by omega)]

theorem Os_end (c : Dev nD) : Os c 48 = 0 := by
  unfold Os
  exact Finset.sum_eq_zero fun k _ => if_neg (by have := k.isLt; omega)

def L (g : GSem nD τ sig) : Finset Unit := if g.1.2 = .tc then {()} else ∅
/-- Receive cells at two plus their number, barrier cells at one, the rest (staging, send) at zero. -/
def lv (g : GSem nD τ sig) (_ : Unit) : ℕ := match g.2 with | .reg _ => 1 | .dma q => if 54 ≤ q.val then 2 + (q.val - 54) else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 48) (c : Dev nD) : lv (recvCell k c) () = 2 + k.val := by
  show (if 54 ≤ 54 + k.val then 2 + (54 + k.val - 54) else 0) = 2 + k.val
  rw [if_pos (by omega)]; omega
theorem lv_bar (c : Dev nD) : lv (barCell c) () = 1 := rfl
theorem lv_low (c : Dev nD) (q : DmaSem sig) (h : q.val < 54) : lv ((c : Thread nD τ), .dma q) () = 0 := if_neg (by omega)

theorem Os_pos {c : Dev nD} {s : ℕ} {g : GSem nD τ sig} {u : Unit} (h : 0 < Os c s g u) :
    ∃ k : Fin 48, s ≤ k.val ∧ g = recvCell k (nb k.val c) := by
  by_contra hn
  unfold Os at h
  rw [Finset.sum_apply, Finsupp.finset_sum_apply, Finset.sum_eq_zero] at h
  · exact Nat.lt_irrefl 0 h
  · intro k _
    unfold owe
    by_cases hs : s ≤ k.val
    · rw [if_pos hs, tallyAt_apply, if_neg (fun h' => hn ⟨k, hs, h'.1⟩)]
    · rw [if_neg hs]; rfl

theorem O₀_pos {c : Dev nD} {g : GSem nD τ sig} {u : Unit} (h : 0 < O₀ c g u) :
    (∃ k : Fin 48, g = recvCell k (nb k.val c)) ∨ ∃ d, g = barCell d := by
  unfold O₀ O₁ at h
  rw [Pi.add_apply, Finsupp.add_apply, Pi.add_apply, Finsupp.add_apply, tallyAt_apply, tallyAt_apply] at h
  by_cases h1 : 0 < Os c 0 g u
  · obtain ⟨k, -, hk⟩ := Os_pos h1; exact .inl ⟨k, hk⟩
  · by_cases h2 : g = barCell (nxt c) ∧ u = ()
    · exact .inr ⟨_, h2.1⟩
    · by_cases h3 : g = barCell (prv c) ∧ u = ()
      · exact .inr ⟨_, h3.1⟩
      · rw [if_neg h2, if_neg h3] at h; omega

/-- A wait is allowed when its cell's level is below that of everything still owed. -/
theorem mayWait_Os (c : Dev nD) (s n : ℕ) (sm : SemLoc sig) (hn : lv ((c : Thread nD τ), sm) () ≤ n) (h : ∀ k : Fin 48, s ≤ k.val → n < 2 + k.val) :
    (levAts L lv : sProp 𝕄) ⊢ MayWait (c : Thread nD τ) sm () (Os c s) :=
  MayOwe.of_cut (L := L) (lev := lv) n (fun p hp => by rw [Finset.mem_singleton.mp hp, L_tc]; exact Finset.mem_singleton_self _)
    (fun g u hg => by obtain ⟨k, -, rfl⟩ := Os_pos hg; exact Finset.mem_singleton_self _)
    (fun p hp => by rw [Finset.mem_singleton.mp hp]; exact hn)
    (fun g u hg => by obtain ⟨k, hk, rfl⟩ := Os_pos hg; rw [lv_recv]; exact h k hk)

theorem mayWait_stage (c : Dev nD) (q : DmaSem sig) (hq : q.val < 54) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by rw [Finset.mem_singleton.mp hp, lv_low c q hq])
      (fun g u hg => by
        rcases O₀_pos hg with ⟨k, rfl⟩ | ⟨d, rfl⟩
        · rw [lv_recv]; omega
        · rw [lv_bar]; exact Nat.one_pos)
  · rw [MayWait_zero]; iintro -; iempintro

end Cert.Moe
-- ==== Proof.State.lean ====
/-
# `State`: what a device holds while it runs

Counters: `p` chunks of partial products computed, `s` transfers issued, `r` receives awaited, `a` tiles accumulated,
`f` tiles finally written, `w` sends awaited. Each family below gives, for every transfer number, what the device holds
of it at the counters, and each lemma moves one counter by one.
-/
module

public import proofs.«01_k».proof.Proof.Proto

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells of the protocol and their records -/

/-- A device's cells: its barrier, its send cells, its receive cells. -/
abbrev CI : Type := Option (Bool × Fin 48)
def csem : CI → SemLoc sig
  | none => .reg barS
  | some (false, k) => .dma (sendS k)
  | some (true, k) => .dma (recvS k)
def kcell (ci : Dev nD × CI) : GSem nD τ sig := ((ci.1 : Thread nD τ), csem ci.2)

section
variable (P : Dev nD → Fin 4 → FVec F S512x1024 .bf16) (K : Dev nD × CI → ℕ)

/-- Every cell's invariant, that its round 0 is reached, and the levels. -/
def recs : sProp 𝕄 :=
  iprop((bigSep Finset.univ fun ci : Dev nD × CI => cellInv ER (Rd P) (K ci) (kcell ci))
    ∗ (bigSep Finset.univ fun ci : Dev nD × CI => reached ER (kcell ci) 0) ∗ levAts L lv)

instance recs_persistent : BI.Persistent (recs P K) := by unfold recs; infer_instance

theorem recs_inv (ci : Dev nD × CI) : recs P K ⊢ cellInv ER (Rd P) (K ci) (kcell ci) := by
  unfold recs
  iintro ⟨H, -⟩
  have h : (bigSep Finset.univ fun ci : Dev nD × CI => (cellInv ER (Rd P) (K ci) (kcell ci) : sProp 𝕄)) ⊢ cellInv ER (Rd P) (K ci) (kcell ci) :=
    bigSep_elim (Finset.mem_univ ci)
  iapply h $$ H
theorem recs_reached (ci : Dev nD × CI) : recs P K ⊢ reached ER (kcell ci) 0 := by
  unfold recs
  iintro ⟨-, H, -⟩
  have h : (bigSep Finset.univ fun ci : Dev nD × CI => (reached ER (kcell ci) 0 : sProp 𝕄)) ⊢ reached ER (kcell ci) 0 :=
    bigSep_elim (Finset.mem_univ ci)
  iapply h $$ H
theorem recs_lev : recs P K ⊢ levAts L lv := by
  unfold recs
  iintro ⟨-, -, H⟩; iexact H
end

/-! ## The families -/

section Families
variable (P : Dev nD → Fin 4 → FVec F S512x1024 .bf16) (c : Dev nD)

/-- Transfer `k` on the sender: before it is issued the tokens, its send cell's position and the slot it will fill; in
    flight the credit and the position; then the send cell's counter at zero. -/
def sendSt (s w : ℕ) (k : Fin 48) : sProp 𝕄 :=
  if s ≤ k.val then
    iprop(dutyTok ER (sendCell k c) 0 false ∗ dutyTok ER (recvCell k (nb k.val c)) 0 false ∗ atPos ER (sendCell k c) 0 ∅ 0 ∗ sE k (nb k.val c))
  else if w ≤ k.val then iprop(cred (tallyAt (sendCell k c) () N) ∗ atPos ER (sendCell k c) 0 ∅ 0)
  else semVal (sendCell k c) 0
/-- Receive cell `k`. -/
def recvSt (r : ℕ) (k : Fin 48) : sProp 𝕄 :=
  if r ≤ k.val then iprop(atPos ER (recvCell k c) 0 ∅ 0 ∗ cred (tallyAt (recvCell k c) () N)) else semVal (recvCell k c) 0
/-- Slot `k`: held once received, by half while it is being sent on. -/
def slotSt (s r w : ℕ) (k : Fin 48) : sProp 𝕄 :=
  if r ≤ k.val then iprop(emp)
  else if 24 ≤ k.val ∧ k.val < 40 ∧ k.val + 8 < s ∧ w ≤ k.val + 8 then ownsTc c (sM k) halfR (S P k.val c)
  else ownsTc c (sM k) fullShare (S P k.val c)
/-- The tiles travelling with transfer `k`: held from its receive to the next hop's issue. -/
def travSt (s r : ℕ) (k : Fin 48) : sProp 𝕄 :=
  if k.val < r ∧ s ≤ k.val + 8 then Trav (k.val % 8) (k.val / 8) c else iprop(emp)

/-- The slab that tile `k` belongs to, in the order they are computed. -/
def ord (k : ℕ) : ℕ := if k < 8 then 0 else if k < 16 then (if right k then 1 else 2) else if k < 24 then 3 else if right k then 2 else 1

/-- Tile `k`: unwritten, then its partial product, then the sum, gone while it travels, home, finally written. -/
def tileSt (p s r a f w : ℕ) (k : Fin 32) : sProp 𝕄 :=
  if p ≤ ord k.val then tE k.val c
  else if s ≤ k.val then ownsTc c (tM k.val c) fullShare (if k.val < a + 8 then A P k.val c else Pt P k.val c)
  else if k.val < 24 then
    (if k.val + 24 < r then (if k.val < f then ownsTc c (tM k.val c) fullShare (S P (k.val + 24) c) else tE k.val c) else iprop(emp))
  else if k.val < w then ownsTc c (tM k.val c) fullShare (A P k.val c) else iprop(emp)

def Sends (s w : ℕ) : sProp 𝕄 := bigSep Finset.univ (sendSt (F := F) c s w)
def Recvs (r : ℕ) : sProp 𝕄 := bigSep Finset.univ (recvSt (F := F) c r)
def Slots (s r w : ℕ) : sProp 𝕄 := bigSep Finset.univ (slotSt P c s r w)
def Travs (s r : ℕ) : sProp 𝕄 := bigSep Finset.univ (travSt (F := F) c s r)
def Tiles (p s r a f w : ℕ) : sProp 𝕄 := bigSep Finset.univ (tileSt P c p s r a f w)

/-- One member of a family changes. -/
theorem fam_update {I : Type} [Fintype I] [DecidableEq I] {Φ Ψ : I → sProp 𝕄} (i : I) {X Y : sProp 𝕄} (h : ∀ j, j ≠ i → Ψ j = Φ j) (hX : Φ i = X) (hY : Ψ i = Y) :
    bigSep Finset.univ Φ ⊢ iprop(X ∗ (Y -∗ bigSep Finset.univ Ψ)) := by
  subst hX; subst hY; exact bigSep_univ_update i h
/-- No member of a family changes. -/
theorem fam_same {I : Type} [Fintype I] {Φ Ψ : I → sProp 𝕄} (h : ∀ j, Φ j = Ψ j) : bigSep Finset.univ Φ = bigSep Finset.univ Ψ :=
  bigSep_congr fun j _ => h j

theorem fin_ne {n : ℕ} {j : Fin n} {k : ℕ} {hk : k < n} (h : j ≠ ⟨k, hk⟩) : j.val ≠ k := fun e => h (Fin.ext e)

/-- Issuing transfer `k`. -/
theorem sends_issue {k w : ℕ} (hk : k < 48) (hw : w ≤ k) : Sends (F := F) c k w
    ⊢ iprop((dutyTok ER (sendCell ⟨k, hk⟩ c) 0 false ∗ dutyTok ER (recvCell ⟨k, hk⟩ (nb k c)) 0 false ∗ atPos ER (sendCell ⟨k, hk⟩ c) 0 ∅ 0 ∗ sE ⟨k, hk⟩ (nb k c))
        ∗ ((cred (tallyAt (sendCell ⟨k, hk⟩ c) () N) ∗ atPos ER (sendCell ⟨k, hk⟩ c) 0 ∅ 0) -∗ Sends c (k + 1) w)) :=
  fam_update ⟨k, hk⟩ (fun j hj => by have := fin_ne hj; unfold sendSt; split_ifs <;> first | omega | rfl)
    (by unfold sendSt; split_ifs <;> first | omega | (exfalso; dsimp only at *; omega) | rfl) (by unfold sendSt; split_ifs <;> first | omega | (exfalso; dsimp only at *; omega) | rfl)

/-- Awaiting send `w`, all transfers issued. -/
theorem sends_done {w : ℕ} (hk : w < 48) : Sends (F := F) c 48 w
    ⊢ iprop((cred (tallyAt (sendCell ⟨w, hk⟩ c) () N) ∗ atPos ER (sendCell ⟨w, hk⟩ c) 0 ∅ 0) ∗ (semVal (sendCell ⟨w, hk⟩ c) 0 -∗ Sends c 48 (w + 1))) :=
  fam_update ⟨w, hk⟩ (fun j hj => by have := fin_ne hj; unfold sendSt; split_ifs <;> first | omega | rfl)
    (by unfold sendSt; split_ifs <;> first | omega | (exfalso; dsimp only at *; omega) | rfl) (by unfold sendSt; split_ifs <;> first | omega | (exfalso; dsimp only at *; omega) | rfl)

/-- Awaiting receive `r`. -/
theorem recvs_take {r : ℕ} (hk : r < 48) : Recvs (F := F) c r
    ⊢ iprop((atPos ER (recvCell ⟨r, hk⟩ c) 0 ∅ 0 ∗ cred (tallyAt (recvCell ⟨r, hk⟩ c) () N)) ∗ (semVal (recvCell ⟨r, hk⟩ c) 0 -∗ Recvs c (r + 1))) :=
  fam_update ⟨r, hk⟩ (fun j hj => by have := fin_ne hj; unfold recvSt; split_ifs <;> first | omega | rfl)
    (by unfold recvSt; split_ifs <;> first | omega | (exfalso; dsimp only at *; omega) | rfl) (by unfold recvSt; split_ifs <;> first | omega | (exfalso; dsimp only at *; omega) | rfl)

/-- The slot arrives. -/
theorem slots_fill {s r w : ℕ} (hk : r < 48) (hs : s ≤ r + 8) : Slots P c s r w
    ⊢ iprop(emp ∗ (ownsTc c (sM ⟨r, hk⟩) fullShare (S P r c) -∗ Slots P c s (r + 1) w)) :=
  fam_update ⟨r, hk⟩ (fun j hj => by have := fin_ne hj; unfold slotSt; split_ifs <;> first | omega | rfl)
    (by unfold slotSt; split_ifs <;> first | omega | (exfalso; dsimp only at *; omega) | rfl) (by unfold slotSt; split_ifs <;> first | omega | (exfalso; dsimp only at *; omega) | rfl)

/-- A slot is sent on: half of it goes. -/
theorem slots_half {k j r w : ℕ} (hj : j < 48) (hk : k = j + 8) (hk' : 32 ≤ k) (hk2 : k < 48) (hr : j < r) (hw : w ≤ k) : Slots P c k r w
    ⊢ iprop(ownsTc c (sM ⟨j, hj⟩) fullShare (S P j c) ∗ (ownsTc c (sM ⟨j, hj⟩) halfR (S P j c) -∗ Slots P c (k + 1) r w)) :=
  fam_update ⟨j, hj⟩ (fun j hj => by have := fin_ne hj; unfold slotSt; split_ifs <;> first | omega | rfl)
    (by unfold slotSt; split_ifs <;> first | omega | (exfalso; dsimp only at *; omega) | rfl) (by unfold slotSt; split_ifs <;> first | omega | (exfalso; dsimp only at *; omega) | rfl)
theorem slots_low {k r w : ℕ} (hk : k < 32) : Slots P c k r w = Slots P c (k + 1) r w :=
  fam_same fun j => by unfold slotSt; split_ifs <;> first | omega | rfl

/-- The half comes back. -/
theorem slots_back {w j r : ℕ} (hj : j < 48) (hk : w = j + 8) (hk' : 32 ≤ w) (hk2 : w < 48) (hr : j < r) : Slots P c 48 r w
    ⊢ iprop(ownsTc c (sM ⟨j, hj⟩) halfR (S P j c) ∗ (ownsTc c (sM ⟨j, hj⟩) fullShare (S P j c) -∗ Slots P c 48 r (w + 1))) :=
  fam_update ⟨j, hj⟩ (fun j hj => by have := fin_ne hj; unfold slotSt; split_ifs <;> first | omega | rfl)
    (by unfold slotSt; split_ifs <;> first | omega | (exfalso; dsimp only at *; omega) | rfl) (by unfold slotSt; split_ifs <;> first | omega | (exfalso; dsimp only at *; omega) | rfl)
theorem slots_back_low {w r : ℕ} (hk : w < 32) : Slots P c 48 r w = Slots P c 48 r (w + 1) :=
  fam_same fun j => by unfold slotSt; split_ifs <;> first | omega | rfl

/-- Slot `j`, received, at whatever share is held. -/
theorem slots_read {s r w j : ℕ} (hj : j < 48) (hr : j < r) : Slots P c s r w
    ⊢ iprop(∃ q, ownsTc c (sM ⟨j, hj⟩) q (S P j c) ∗ (ownsTc c (sM ⟨j, hj⟩) q (S P j c) -∗ Slots P c s r w)) := by
  have h : slotSt P c s r w ⟨j, hj⟩ = ownsTc c (sM ⟨j, hj⟩) halfR (S P j c) ∨ slotSt P c s r w ⟨j, hj⟩ = ownsTc c (sM ⟨j, hj⟩) fullShare (S P j c) := by
    by_cases hc : 24 ≤ j ∧ j < 40 ∧ j + 8 < s ∧ w ≤ j + 8
    · left; unfold slotSt; rw [if_neg (by dsimp only; omega), if_pos hc]
    · right; unfold slotSt; rw [if_neg (by dsimp only; omega), if_neg hc]
  unfold Slots
  rcases h with h | h
  · iintro H
    iexists halfR
    iapply (fam_update (Ψ := slotSt P c s r w) ⟨j, hj⟩ (fun _ _ => rfl) h h) $$ H
  · iintro H
    iexists fullShare
    iapply (fam_update (Ψ := slotSt P c s r w) ⟨j, hj⟩ (fun _ _ => rfl) h h) $$ H

/-- The travelling tiles arrive. -/
theorem travs_put {s r : ℕ} (hk : r < 48) (hs : s ≤ r + 8) : Travs (F := F) c s r
    ⊢ iprop(emp ∗ (Trav (r % 8) (r / 8) c -∗ Travs c s (r + 1))) :=
  fam_update ⟨r, hk⟩ (fun j hj => by have := fin_ne hj; unfold travSt; split_ifs <;> first | omega | rfl)
    (by unfold travSt; split_ifs <;> first | omega | (exfalso; dsimp only at *; omega) | rfl) (by unfold travSt; split_ifs <;> first | omega | (exfalso; dsimp only at *; omega) | rfl)

/-- They travel on with transfer `k`. -/
theorem travs_take {k r : ℕ} (hk : k < 48) (hr : k < r + 8) : Travs (F := F) c k r
    ⊢ iprop(Came (k % 8) (k / 8) c ∗ Travs c (k + 1) r) := by
  by_cases h : k < 8
  · have e : Travs (F := F) c k r = Travs c (k + 1) r := fam_same fun j => by unfold travSt; split_ifs <;> first | omega | rfl
    unfold Came
    rw [e, if_pos (by omega)]
    iintro H; isplitr; · iempintro
    iexact H
  · obtain ⟨j, rfl⟩ : ∃ j, k = j + 8 := ⟨k - 8, by omega⟩
    have e1 : (j + 8) % 8 = j % 8 := by omega
    have e2 : (j + 8) / 8 - 1 = j / 8 := by omega
    have := fam_update (F := F) (Φ := travSt c (j + 8) r) (Ψ := travSt c (j + 8 + 1) r) (X := Trav (j % 8) (j / 8) c) (Y := iprop(emp)) (⟨j, by omega⟩ : Fin 48)
      (fun i hi => by have := fin_ne hi; unfold travSt; split_ifs <;> first | omega | rfl)
      (by unfold travSt; split_ifs <;> first | omega | (exfalso; dsimp only at *; omega) | rfl) (by unfold travSt; split_ifs <;> first | omega | (exfalso; dsimp only at *; omega) | rfl)
    unfold Came Travs
    rw [if_neg (by omega), e1, e2]
    iintro H
    ihave H' := this $$ H
    icases H' with ⟨Ht, Hw⟩
    isplitl [Ht]; · iexact Ht
    iapply Hw; iempintro

/-- A tile leaves with transfer `k`. -/
theorem tiles_send {p k r a f w : ℕ} (hk : k < 32) (hp : ord k < p) (ha : k < a + 8) (hr : r ≤ k + 24) (hw : w ≤ k) : Tiles P c p k r a f w
    ⊢ iprop(ownsTc c (tM k c) fullShare (A P k c) ∗ (emp -∗ Tiles P c p (k + 1) r a f w)) :=
  fam_update ⟨k, hk⟩ (fun j hj => by have := fin_ne hj; unfold tileSt; split_ifs <;> first | omega | rfl)
    (by unfold tileSt; rw [if_neg (by dsimp only; omega), if_pos (le_refl _), if_pos (by dsimp only; omega)])
    (by unfold tileSt; split_ifs <;> first | omega | (exfalso; dsimp only at *; omega) | rfl)
theorem tiles_high {p k r a f w : ℕ} (hk : 32 ≤ k) : Tiles P c p k r a f w = Tiles P c p (k + 1) r a f w :=
  fam_same fun j => by have := j.isLt; unfold tileSt; split_ifs <;> first | omega | rfl

/-- A tile comes home with receive `r`. -/
theorem tiles_home {p s r a w : ℕ} (hk : r < 48) (hs : r < s) (hp : r < 24 ∨ p = 4) : Tiles P c p s r a 0 w
    ⊢ iprop(emp ∗ (Home (r % 8) (r / 8) c -∗ Tiles P c p s (r + 1) a 0 w)) := by
  by_cases h : r < 24
  · have e : Tiles P c p s r a 0 w = Tiles P c p s (r + 1) a 0 w := fam_same fun j => by unfold tileSt; split_ifs <;> first | omega | rfl
    unfold Home
    rw [e, if_neg (by omega)]
    iintro H; isplitr; · iempintro
    iintro -; iexact H
  · obtain rfl : p = 4 := hp.resolve_left h
    obtain ⟨j, rfl⟩ : ∃ j, r = j + 24 := ⟨r - 24, by omega⟩
    have e1 : 8 * ((j + 24) / 8 - 3) + (j + 24) % 8 = j := by omega
    have ho : ord j < 4 := by unfold ord; split_ifs <;> decide
    unfold Home
    rw [if_pos (by omega), e1]
    exact fam_update (⟨j, by omega⟩ : Fin 32)
      (fun i hi => by have := fin_ne hi; unfold tileSt; split_ifs <;> first | omega | rfl)
      (by unfold tileSt; split_ifs <;> first | omega | (exfalso; dsimp only at *; omega) | rfl) (by unfold tileSt; split_ifs <;> first | omega | (exfalso; dsimp only at *; omega) | rfl)

/-- A tile takes in what came: tile `k = a + 8`. -/
theorem tiles_acc {p s r a f w k : ℕ} (hk : k < 32) (hka : k = a + 8) (hp : ord k < p) (hs : s ≤ k) : Tiles P c p s r a f w
    ⊢ iprop(ownsTc c (tM k c) fullShare (Pt P k c) ∗ (ownsTc c (tM k c) fullShare (A P k c) -∗ Tiles P c p s r (a + 1) f w)) :=
  fam_update ⟨k, hk⟩ (fun j hj => by have := fin_ne hj; unfold tileSt; split_ifs <;> first | omega | rfl)
    (by unfold tileSt; rw [if_neg (by dsimp only; omega), if_pos hs, if_neg (by dsimp only; omega)])
    (by unfold tileSt; rw [if_neg (by dsimp only; omega), if_pos hs, if_pos (by dsimp only; omega)])

/-- A tile before it takes in what came. -/
theorem tiles_read {p s r a f w k : ℕ} (hk : k < 32) (hka : k = a + 8) (hp : ord k < p) (hs : s ≤ k) : Tiles P c p s r a f w
    ⊢ iprop(ownsTc c (tM k c) fullShare (Pt P k c) ∗ (ownsTc c (tM k c) fullShare (Pt P k c) -∗ Tiles P c p s r a f w)) := by
  have h : tileSt P c p s r a f w ⟨k, hk⟩ = ownsTc c (tM k c) fullShare (Pt P k c) := by
    unfold tileSt; rw [if_neg (by dsimp only; omega), if_pos hs, if_neg (by dsimp only; omega)]
  exact fam_update (Ψ := tileSt P c p s r a f w) ⟨k, hk⟩ (fun _ _ => rfl) h h

/-- The final write of tile `f`. -/
theorem tiles_final {a f w : ℕ} (hf : f < 24) : Tiles P c 4 48 48 a f w
    ⊢ iprop(tE f c ∗ (ownsTc c (tM f c) fullShare (S P (f + 24) c) -∗ Tiles P c 4 48 48 a (f + 1) w)) := by
  have ho : ord f < 4 := by unfold ord; split_ifs <;> decide
  exact fam_update (⟨f, by omega⟩ : Fin 32) (fun j hj => by have := fin_ne hj; unfold tileSt; split_ifs <;> first | omega | rfl)
    (by unfold tileSt; split_ifs <;> first | omega | (exfalso; dsimp only at *; omega) | rfl) (by unfold tileSt; split_ifs <;> first | omega | (exfalso; dsimp only at *; omega) | rfl)
theorem tiles_final_read {a f w : ℕ} (hf : f < 24) : Tiles P c 4 48 48 a f w
    ⊢ iprop(tE f c ∗ (tE f c -∗ Tiles P c 4 48 48 a f w)) := by
  have ho : ord f < 4 := by unfold ord; split_ifs <;> decide
  have h : tileSt P c 4 48 48 a f w ⟨f, by omega⟩ = tE f c := by
    unfold tileSt; split_ifs <;> first | omega | (exfalso; dsimp only at *; omega) | rfl
  exact fam_update (Ψ := tileSt P c 4 48 48 a f w) ⟨f, by omega⟩ (fun _ _ => rfl) h h

/-- The source of a hop-3 transfer comes back. -/
theorem tiles_back {r a f w : ℕ} (h1 : 24 ≤ w) (h2 : w < 32) : Tiles P c 4 48 r a f w
    ⊢ iprop(emp ∗ (ownsTc c (tM w c) fullShare (A P w c) -∗ Tiles P c 4 48 r a f (w + 1))) := by
  have ho : ord w < 4 := by unfold ord; split_ifs <;> decide
  exact fam_update (⟨w, h2⟩ : Fin 32) (fun j hj => by have := fin_ne hj; unfold tileSt; split_ifs <;> first | omega | rfl)
    (by unfold tileSt; split_ifs <;> first | omega | (exfalso; dsimp only at *; omega) | rfl) (by unfold tileSt; split_ifs <;> first | omega | (exfalso; dsimp only at *; omega) | rfl)
theorem tiles_back_other {r a f w : ℕ} (h : w < 24 ∨ 32 ≤ w) : Tiles P c 4 48 r a f w = Tiles P c 4 48 r a f (w + 1) :=
  fam_same fun j => by have := j.isLt; unfold tileSt; split_ifs <;> first | omega | rfl

end Families

/-! ## The state -/

section
variable (P : Dev nD → Fin 4 → FVec F S512x1024 .bf16) (K : Dev nD × CI → ℕ)

/-- What the device owes, at some record of its waits. -/
def owesE (c : Dev nD) (s : ℕ) : sProp 𝕄 := iprop(∃ W, owes (c : Thread nD τ) (Os c s) W)

/-- The device's state at the counters, beside resources `R` that no transfer touches. -/
def St (R : sProp 𝕄) (c : Dev nD) (p s r a f w : ℕ) : sProp 𝕄 :=
  iprop(R ∗ recs P K ∗ owesE c s ∗ Sends c s w ∗ Recvs c r ∗ Slots P c s r w ∗ Travs c s r ∗ Tiles P c p s r a f w)

end

end Cert.Moe
-- ==== Proof.Steps.lean ====
/-
# `Steps`: one rule for each kind of operation of the kernel, from state to state

Each rule says: from the state at the counters, the operation on transfer (slot, tile) `k` may run, and the state with one
counter moved is what the rest of the program starts from. The rules take the operation's own offsets, semaphores and
device as variables, with an equation to the ones of the protocol.
-/
module

public import proofs.«01_k».proof.Proof.State
public import Idealize.ShloMosaic.Lib.ViewIndex

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs the program to the postcondition. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Ownership of a view -/

theorem owns_open (c : Thread nD τ) {sp : Space} {sh : Shape} {e : EltTy} (m : Memref sig c.2.kind sp sh e) (q : PosShare TreeShare)
    (X : sh.Idx → Elt F e) : (owns c m q X : sProp 𝕄) ⊢ iprop(∃ f, ⌜m.view.read (Elt F) f = X⌝ ∗ (m.view.loc c ↦[m.view.set]{q} f)) :=
  Entails.of_eq rfl

theorem owns_close (c : Thread nD τ) {sp : Space} {sh : Shape} {e : EltTy} (m : Memref sig c.2.kind sp sh e) (q : PosShare TreeShare)
    (X : sh.Idx → Elt F e) (f : m.view.ty.Contents (Elt F)) (h : m.view.read (Elt F) f = X) :
    (m.view.loc c ↦[m.view.set]{q} f) ⊢ (owns c m q X : sProp 𝕄) := by
  subst h; exact owns_intro c m q f

/-- Two halves of one view that read the same are the whole. -/
theorem owns_halves (c : Thread nD τ) {sp : Space} {sh : Shape} {e : EltTy} (m : Memref sig c.2.kind sp sh e) (X : sh.Idx → Elt F e) :
    iprop(owns c m halfL X ∗ owns c m halfR X) ⊢ (owns c m fullShare X : sProp 𝕄) := by
  iintro ⟨H, G⟩
  ihave H' := (owns_open c m halfL X) $$ H
  ihave G' := (owns_open c m halfR X) $$ G
  icases H' with ⟨%f, %hf, H⟩
  icases G' with ⟨%g, %hg, G⟩
  iapply (owns_close c m fullShare X f hf)
  have e : (m.view.loc c ↦[m.view.set]{halfR} g : sProp 𝕄) = m.view.loc c ↦[m.view.set]{halfR} f :=
    pointsTo_congr fun i hi => by
      obtain ⟨x, -, rfl⟩ := Finset.mem_map.mp hi
      exact View.eq_of_read_eq (congrFun (hg.trans hf.symm) x)
  ihave G' := (Entails.of_eq e) $$ G
  iapply (pointsTo_share (PosShare.mem_left_op_right fullShare)).2
  isplitl [H] <;> iassumption

/-- A view owned in full splits into halves. -/
theorem owns_split (c : Thread nD τ) {sp : Space} {sh : Shape} {e : EltTy} (m : Memref sig c.2.kind sp sh e) (X : sh.Idx → Elt F e) :
    (owns c m fullShare X : sProp 𝕄) ⊢ iprop(owns c m halfL X ∗ owns c m halfR X) := by
  iintro H
  ihave H' := (owns_open c m fullShare X) $$ H
  icases H' with ⟨%f, %hf, H⟩
  ihave H' := (pointsTo_share (PosShare.mem_left_op_right fullShare)).1 $$ H
  icases H' with ⟨H, G⟩
  isplitl [H]
  · iapply (owns_close c m halfL X f hf); iexact H
  · iapply (owns_close c m halfR X f hf); iexact G

theorem shapeCast_same {sh : Shape} {α : Type} (x : sh.Idx → α) (h : sh.ShapeCasts sh) : shapeCast sh x h = x :=
  funext fun j => congrArg x (Shape.reshapeEquiv_self h j)

section
variable (P : Dev nD → Fin 4 → FVec F S512x1024 .bf16)

/-- The landing of a copy of `A P k c` makes the receiver's payload. -/
theorem recvPay_intro {k : ℕ} (hk : k < 48) (c : Dev nD) (fd : (sM ⟨k, hk⟩).view.ty.Contents (Elt F)) :
    iprop(((sM ⟨k, hk⟩).view.loc (nb k c : Thread nD τ) ↦[(sM ⟨k, hk⟩).view.set]{fullShare} ((sM ⟨k, hk⟩).view.write (Elt F) fd (A P k c) Finset.univ))
      ∗ Src (k % 8) (k / 8) c ∗ Came (k % 8) (k / 8) c) ⊢ (recvPay P ⟨k, hk⟩ (nb k c) : sProp 𝕄) := by
  unfold recvPay
  dsimp only
  iintro ⟨H, Hs⟩
  isplitl [H]
  · iapply (owns_close (nb k c : Thread nD τ) (sM ⟨k, hk⟩) fullShare (S P k (nb k c)) _ ((View.read_write_univ _ _).trans (S_nb P k c).symm))
    iexact H
  · have e : nb (k % 8) c = nb k c := by unfold nb right; rw [Nat.mod_mod]
    ihave H' := (land (F := F) (k % 8) (k / 8) (by omega) c) $$ Hs
    rw [e]
    iexact H'

end

section Steps
variable (P : Dev nD → Fin 4 → FVec F S512x1024 .bf16) (K : Dev nD × CI → ℕ) (R : sProp (MT nD τ sig Unit (Elt F) ℕ UU ℕ)) (c : Dev nD)
variable {α : Type} {Q : α → sProp (MT nD τ sig Unit (Elt F) ℕ UU ℕ)}

/-! ## Transfers -/

/-- Hops 0–2: a tile leaves, and travels on with the copy. -/
theorem step_send_lo {p k r a f w : ℕ} (hk : k < 24) (hp : ord k < p) (ha : k < a + 8) (hr : k < r + 8) (hr' : r ≤ k + 24) (hw : w ≤ k)
    {src dst : Memref sig .tc .vmem S512x128 .bf16} {n : Dev nD} {sS sR : DmaSem sig}
    (hsrc : src = tM k c) (hn : n = nb k c) (hdst : dst = sM ⟨k, by omega⟩) (hS : sS = sendS ⟨k, by omega⟩) (hR : sR = recvS ⟨k, by omega⟩)
    {hsc : (dst : Memref sig (Dev.tc n : Thread nD τ).2.kind .vmem S512x128 .bf16).view.ref.isScScratch = false}
    {hs : src.view.WordExact} {hd : (dst : Memref sig (Dev.tc n : Thread nD τ).2.kind .vmem S512x128 .bf16).view.WordExact}
    {ht : DmaTarget.Typed .vmem (.dma sR) (.remote (Dev.tc n : Thread nD τ) dst (.dma sS) hsc)}
    {kont : PUnit → Prog (TpuEff nD τ sig (Elt F) Λ₀ .tc) α}
    (h : St P K R c p (k + 1) r a f w ⊢ run c (kont ⟨⟩) Q) :
    St P K R c p k r a f w ⊢ run c (.op (.enqueueDma src (.remote (Dev.tc n : Thread nD τ) dst (.dma sS) hsc) (.dma sR) hs hd ht) kont) Q := by
  have hk48 : k < 48 := by omega
  subst hsrc hn hdst hS hR
  unfold St owesE at *
  iintro ⟨HR, #Hrec, ⟨%W, HO⟩, Hs, Hr, Hsl, Ht, Hti⟩
  ihave Hs' := (sends_issue c hk48 hw) $$ Hs
  icases Hs' with ⟨⟨Htok, Htok', Hat, Hsl'⟩, Hsw⟩
  unfold sE
  icases Hsl' with ⟨%X, Hd⟩
  ihave Hd' := (owns_open (nb k c : Thread nD τ) (sM ⟨k, hk48⟩) fullShare X) $$ Hd
  icases Hd' with ⟨%fd, -, Hd⟩
  ihave Ht' := (travs_take c hk48 hr) $$ Ht
  icases Ht' with ⟨Hcame, Ht⟩
  ihave Hti' := (tiles_send P c (by omega) hp ha hr' hw) $$ Hti
  icases Hti' with ⟨Hsrc, Htiw⟩
  ihave Hsrc' := (owns_open (c : Thread nD τ) (tM k c) fullShare (A P k c)) $$ Hsrc
  icases Hsrc' with ⟨%fs, %hfs, Hsrc⟩
  iapply (Rounds.wp_send_landing_pointsTo_with 𝒱₀ ER (Rd P) (c : Thread nD τ) none (κ₁ := K (c, some (false, ⟨k, hk48⟩))) (κ₂ := K (nb k c, some (true, ⟨k, hk48⟩)))
      (r₁ := 0) (r₂ := 0) (d₁ := false) (d₂ := false) (fd := fd) (F := Came (k % 8) (k / 8) c)
      (by rw [duties_send]; exact Finset.mem_singleton_self _) (by rw [duties_recv]; exact Finset.mem_singleton_self _)
      () () N (by exact N_slot _) (amount_send P c _ false) (amount_recv P (nb k c) _ false) (Os c (k + 1)) (Os_step c ⟨k, hk48⟩) (W := W)
      (by rw [payload_send]; unfold sendPay; rw [if_pos hk])
      (by
        rw [payload_recv]
        refine BIBase.Entails.trans ?_ (recvPay_intro P hk48 c fd)
        unfold Src
        rw [if_pos (by omega), show 8 * (k / 8) + k % 8 = k by omega, hfs]
        iintro ⟨⟨H, G⟩, J⟩
        isplitl [H]; · iexact H
        isplitl [J]
        · unfold tE; iexists (A P k c)
          iapply (owns_close (c : Thread nD τ) (tM k c) fullShare (A P k c) fs hfs); iexact J
        iexact G)) $$ [Hsrc Hd Hcame HO Htok Htok']
  · isplitr; · iapply (recs_inv P K (c, some (false, ⟨k, hk48⟩))); iexact Hrec
    isplitr; · iapply (recs_inv P K (nb k c, some (true, ⟨k, hk48⟩))); iexact Hrec
    isplitl [Hsrc]; · iexact Hsrc
    isplitl [Hd Hcame]
    · isplitl [Hd] <;> iassumption
    isplitl [HO]; · iexact HO
    isplitl [Htok]; · iexact Htok
    isplitr; · iapply (recs_reached P K (c, some (false, ⟨k, hk48⟩))); iexact Hrec
    isplitl [Htok']; · iexact Htok'
    iapply (recs_reached P K (nb k c, some (true, ⟨k, hk48⟩))); iexact Hrec
  iintro ⟨Hcr, HO⟩
  iapply h
  isplitl [HR]; · iexact HR
  isplitr; · iexact Hrec
  isplitl [HO]; · iexists W; iexact HO
  isplitl [Hcr Hat Hsw]; · iapply Hsw; isplitl [Hcr] <;> iassumption
  isplitl [Hr]; · iexact Hr
  isplitl [Hsl]; · rw [← slots_low P c (by omega)]; iexact Hsl
  isplitl [Ht]; · iexact Ht
  iapply Htiw; iempintro

/-- Hop 3: a finished tile leaves; it comes back with the send. -/
theorem step_send_mid {p k r a f w : ℕ} (hk : 24 ≤ k) (hk2 : k < 32) (hp : ord k < p) (ha : k < a + 8) (hr : k < r + 8) (hr' : r ≤ k + 24) (hw : w ≤ k)
    {src dst : Memref sig .tc .vmem S512x128 .bf16} {n : Dev nD} {sS sR : DmaSem sig}
    (hsrc : src = tM k c) (hn : n = nb k c) (hdst : dst = sM ⟨k, by omega⟩) (hS : sS = sendS ⟨k, by omega⟩) (hR : sR = recvS ⟨k, by omega⟩)
    {hsc : (dst : Memref sig (Dev.tc n : Thread nD τ).2.kind .vmem S512x128 .bf16).view.ref.isScScratch = false}
    {hs : src.view.WordExact} {hd : (dst : Memref sig (Dev.tc n : Thread nD τ).2.kind .vmem S512x128 .bf16).view.WordExact}
    {ht : DmaTarget.Typed .vmem (.dma sR) (.remote (Dev.tc n : Thread nD τ) dst (.dma sS) hsc)}
    {kont : PUnit → Prog (TpuEff nD τ sig (Elt F) Λ₀ .tc) α}
    (h : St P K R c p (k + 1) r a f w ⊢ run c (kont ⟨⟩) Q) :
    St P K R c p k r a f w ⊢ run c (.op (.enqueueDma src (.remote (Dev.tc n : Thread nD τ) dst (.dma sS) hsc) (.dma sR) hs hd ht) kont) Q := by
  have hk48 : k < 48 := by omega
  subst hsrc hn hdst hS hR
  unfold St owesE at *
  iintro ⟨HR, #Hrec, ⟨%W, HO⟩, Hs, Hr, Hsl, Ht, Hti⟩
  ihave Hs' := (sends_issue c hk48 hw) $$ Hs
  icases Hs' with ⟨⟨Htok, Htok', Hat, Hsl'⟩, Hsw⟩
  unfold sE
  icases Hsl' with ⟨%X, Hd⟩
  ihave Hd' := (owns_open (nb k c : Thread nD τ) (sM ⟨k, hk48⟩) fullShare X) $$ Hd
  icases Hd' with ⟨%fd, -, Hd⟩
  ihave Ht' := (travs_take c hk48 hr) $$ Ht
  icases Ht' with ⟨Hcame, Ht⟩
  ihave Hti' := (tiles_send P c (by omega) hp ha hr' hw) $$ Hti
  icases Hti' with ⟨Hsrc, Htiw⟩
  ihave Hsrc' := (owns_open (c : Thread nD τ) (tM k c) fullShare (A P k c)) $$ Hsrc
  icases Hsrc' with ⟨%fs, %hfs, Hsrc⟩
  iapply (Rounds.wp_send_pointsTo_with 𝒱₀ ER (Rd P) (c : Thread nD τ) none (κ₁ := K (c, some (false, ⟨k, hk48⟩))) (κ₂ := K (nb k c, some (true, ⟨k, hk48⟩)))
      (r₁ := 0) (r₂ := 0) (d₁ := false) (d₂ := false) (fd := fd) (F := Came (k % 8) (k / 8) c)
      (by rw [duties_send]; exact Finset.mem_singleton_self _) (by rw [duties_recv]; exact Finset.mem_singleton_self _)
      () () N (by exact N_slot _) (amount_send P c _ false) (amount_recv P (nb k c) _ false) (Os c (k + 1)) (Os_step c ⟨k, hk48⟩) (W := W)
      (by
        rw [payload_send]; unfold sendPay; rw [if_neg (by dsimp only; omega), if_pos hk2]
        exact owns_close (c : Thread nD τ) (tM k c) fullShare (A P k c) fs hfs)
      (by
        rw [payload_recv]
        refine BIBase.Entails.trans ?_ (recvPay_intro P hk48 c fd)
        unfold Src
        rw [if_neg (by omega), hfs]
        iintro ⟨H, G⟩
        isplitl [H]; · iexact H
        isplitr; · iempintro
        iexact G)) $$ [Hsrc Hd Hcame HO Htok Htok']
  · isplitr; · iapply (recs_inv P K (c, some (false, ⟨k, hk48⟩))); iexact Hrec
    isplitr; · iapply (recs_inv P K (nb k c, some (true, ⟨k, hk48⟩))); iexact Hrec
    isplitl [Hsrc]; · iexact Hsrc
    isplitl [Hd Hcame]
    · isplitl [Hd] <;> iassumption
    isplitl [HO]; · iexact HO
    isplitl [Htok]; · iexact Htok
    isplitr; · iapply (recs_reached P K (c, some (false, ⟨k, hk48⟩))); iexact Hrec
    isplitl [Htok']; · iexact Htok'
    iapply (recs_reached P K (nb k c, some (true, ⟨k, hk48⟩))); iexact Hrec
  iintro ⟨Hcr, HO⟩
  iapply h
  isplitl [HR]; · iexact HR
  isplitr; · iexact Hrec
  isplitl [HO]; · iexists W; iexact HO
  isplitl [Hcr Hat Hsw]; · iapply Hsw; isplitl [Hcr] <;> iassumption
  isplitl [Hr]; · iexact Hr
  isplitl [Hsl]; · rw [← slots_low P c (by omega)]; iexact Hsl
  isplitl [Ht]; · iexact Ht
  iapply Htiw; iempintro

/-- Hops 4 and 5: the slot received two transfers ago in the lane is sent on; half of it comes back with the send. -/
theorem step_send_hi {p k r a f w : ℕ} (j : ℕ) (hkj : k = j + 8) (hj : 24 ≤ j) (hk : k < 48) (hr : k < r + 8) (hw : w ≤ k)
    {src dst : Memref sig .tc .vmem S512x128 .bf16} {n : Dev nD} {sS sR : DmaSem sig}
    (hsrc : src = sM ⟨j, by omega⟩) (hn : n = nb k c) (hdst : dst = sM ⟨k, hk⟩) (hS : sS = sendS ⟨k, hk⟩) (hR : sR = recvS ⟨k, hk⟩)
    {hsc : (dst : Memref sig (Dev.tc n : Thread nD τ).2.kind .vmem S512x128 .bf16).view.ref.isScScratch = false}
    {hs : src.view.WordExact} {hd : (dst : Memref sig (Dev.tc n : Thread nD τ).2.kind .vmem S512x128 .bf16).view.WordExact}
    {ht : DmaTarget.Typed .vmem (.dma sR) (.remote (Dev.tc n : Thread nD τ) dst (.dma sS) hsc)}
    {kont : PUnit → Prog (TpuEff nD τ sig (Elt F) Λ₀ .tc) α}
    (h : St P K R c p (k + 1) r a f w ⊢ run c (kont ⟨⟩) Q) :
    St P K R c p k r a f w ⊢ run c (.op (.enqueueDma src (.remote (Dev.tc n : Thread nD τ) dst (.dma sS) hsc) (.dma sR) hs hd ht) kont) Q := by
  have hj48 : j < 48 := by omega
  have eA : A P k c = S P j c := by subst hkj; exact A_fwd P hj c
  subst hsrc hn hdst hS hR
  unfold St owesE at *
  iintro ⟨HR, #Hrec, ⟨%W, HO⟩, Hs, Hr, Hsl, Ht, Hti⟩
  ihave Hs' := (sends_issue c hk hw) $$ Hs
  icases Hs' with ⟨⟨Htok, Htok', Hat, Hsl'⟩, Hsw⟩
  unfold sE
  icases Hsl' with ⟨%X, Hd⟩
  ihave Hd' := (owns_open (nb k c : Thread nD τ) (sM ⟨k, hk⟩) fullShare X) $$ Hd
  icases Hd' with ⟨%fd, -, Hd⟩
  ihave Ht' := (travs_take c hk hr) $$ Ht
  icases Ht' with ⟨Hcame, Ht⟩
  ihave Hsl' := (slots_half P c hj48 hkj (by omega) hk (by omega) hw) $$ Hsl
  icases Hsl' with ⟨Hsrc, Hslw⟩
  ihave Hsrc' := (owns_split (c : Thread nD τ) (sM ⟨j, hj48⟩) (S P j c)) $$ Hsrc
  icases Hsrc' with ⟨Hsrc, Hkeep⟩
  ihave Hsrc' := (owns_open (c : Thread nD τ) (sM ⟨j, hj48⟩) halfL (S P j c)) $$ Hsrc
  icases Hsrc' with ⟨%fs, %hfs, Hsrc⟩
  iapply (Rounds.wp_send_pointsTo_with 𝒱₀ ER (Rd P) (c : Thread nD τ) none (κ₁ := K (c, some (false, ⟨k, hk⟩))) (κ₂ := K (nb k c, some (true, ⟨k, hk⟩)))
      (r₁ := 0) (r₂ := 0) (d₁ := false) (d₂ := false) (fd := fd) (F := Came (k % 8) (k / 8) c)
      (by rw [duties_send]; exact Finset.mem_singleton_self _) (by rw [duties_recv]; exact Finset.mem_singleton_self _)
      () () N (by exact N_slot _) (amount_send P c _ false) (amount_recv P (nb k c) _ false) (Os c (k + 1)) (Os_step c ⟨k, hk⟩) (W := W)
      (by
        rw [payload_send]; unfold sendPay; rw [if_neg (by dsimp only; omega), if_neg (by dsimp only; omega)]
        dsimp only
        rw [eA]
        subst hkj
        exact owns_close (c : Thread nD τ) (sM ⟨j, hj48⟩) halfL (S P j c) fs hfs)
      (by
        rw [payload_recv]
        refine BIBase.Entails.trans ?_ (recvPay_intro P hk c fd)
        unfold Src
        rw [if_neg (by omega), hfs, eA]
        iintro ⟨H, G⟩
        isplitl [H]; · iexact H
        isplitr; · iempintro
        iexact G)) $$ [Hsrc Hd Hcame HO Htok Htok']
  · isplitr; · iapply (recs_inv P K (c, some (false, ⟨k, hk⟩))); iexact Hrec
    isplitr; · iapply (recs_inv P K (nb k c, some (true, ⟨k, hk⟩))); iexact Hrec
    isplitl [Hsrc]; · iexact Hsrc
    isplitl [Hd Hcame]
    · isplitl [Hd] <;> iassumption
    isplitl [HO]; · iexact HO
    isplitl [Htok]; · iexact Htok
    isplitr; · iapply (recs_reached P K (c, some (false, ⟨k, hk⟩))); iexact Hrec
    isplitl [Htok']; · iexact Htok'
    iapply (recs_reached P K (nb k c, some (true, ⟨k, hk⟩))); iexact Hrec
  iintro ⟨Hcr, HO⟩
  iapply h
  isplitl [HR]; · iexact HR
  isplitr; · iexact Hrec
  isplitl [HO]; · iexists W; iexact HO
  isplitl [Hcr Hat Hsw]; · iapply Hsw; isplitl [Hcr] <;> iassumption
  isplitl [Hr]; · iexact Hr
  isplitl [Hkeep Hslw]; · iapply Hslw; iexact Hkeep
  isplitl [Ht]; · iexact Ht
  rw [← tiles_high P c (by omega)]; iexact Hti

/-! ## Waits -/

/-- The wait for transfer `r` to come in. -/
theorem step_recv {p s r a w : ℕ} (hr : r < 48) (hs : r < s) (hs' : s ≤ r + 8) (hp : r < 24 ∨ p = 4)
    {sR : DmaSem sig} (hR : sR = recvS ⟨r, hr⟩)
    {sp sp' : Space} {sh sh' : Shape} {e e' : EltTy} {src : Memref sig (c : Thread nD τ).2.kind sp' sh' e'} {κ' : Kind} {dst : Memref sig κ' sp sh e}
    (hN : dst.view.dmaCredit = N) {hsrc : src.view.WordExact} {hdst : dst.view.WordExact}
    {kont : PUnit → Prog (TpuEff nD τ sig (Elt F) Λ₀ .tc) α}
    (h : St P K R c p s (r + 1) a 0 w ⊢ run c (kont ⟨⟩) Q) :
    St P K R c p s r a 0 w ⊢ run c (.op (.waitDma2 sR src dst hsrc hdst) kont) Q := by
  subst hR
  unfold St owesE at *
  iintro ⟨HR, #Hrec, ⟨%W, HO⟩, Hs, Hr, Hsl, Ht, Hti⟩
  ihave Hr' := (recvs_take c hr) $$ Hr
  icases Hr' with ⟨⟨Hat, Hcr⟩, Hrw⟩
  iapply (Rounds.wp_wait_rest_token 𝒱₀ ER (Rd P) (c : Thread nD τ) none (κ := K (c, some (true, ⟨r, hr⟩)))
      (wpE_waitDma2_eq 𝒱₀ (c : Thread nD τ) none Set.univ) (Set.mem_univ _) () (O := Os c s) (W := W) (R := 0) (m := 0) (T := ∅)
      (by rw [Nat.zero_add, hN]; exact (expect_recv P c ⟨r, hr⟩).symm)) $$ [Hcr HO Hat]
  · isplitr; · iapply (recs_inv P K (c, some (true, ⟨r, hr⟩))); iexact Hrec
    isplitl [Hcr]; · rw [hN]; iexact Hcr
    isplitl [HO]; · iexact HO
    isplitr
    · iapply (mayWait_Os c s (2 + r) (.dma (recvS ⟨r, hr⟩)) (le_of_eq (lv_recv ⟨r, hr⟩ c)) (fun k hk => by omega))
      iapply (recs_lev P K); iexact Hrec
    iexact Hat
  iintro ⟨HO, Hat, -, Hpay⟩
  ihave Hp := (Entails.of_eq (rest_recv P c ⟨r, hr⟩)) $$ Hpay
  unfold recvPay
  icases Hp with ⟨Hslot, Hhome, Htrav⟩
  imod (Rounds.cell_close ER (Rd P) (Set.mem_univ (K (c, some (true, ⟨r, hr⟩)))) (fun h => h) (R := 0 + 1) (duties_later P (recvCell ⟨r, hr⟩ c))) $$ [Hat] with Hz
  · isplitr; · iapply (recs_inv P K (c, some (true, ⟨r, hr⟩))); iexact Hrec
    iexact Hat
  ihave Hsl' := (slots_fill P c hr hs') $$ Hsl
  icases Hsl' with ⟨-, Hslw⟩
  ihave Ht' := (travs_put c hr hs') $$ Ht
  icases Ht' with ⟨-, Htw⟩
  ihave Hti' := (tiles_home P c hr hs hp) $$ Hti
  icases Hti' with ⟨-, Htiw⟩
  iapply h
  isplitl [HR]; · iexact HR
  isplitr; · iexact Hrec
  isplitl [HO]; · iexists _; iexact HO
  isplitl [Hs]; · iexact Hs
  isplitl [Hrw Hz]; · iapply Hrw; iexact Hz
  isplitl [Hslw Hslot]; · iapply Hslw; iexact Hslot
  isplitl [Htw Htrav]; · iapply Htw; iexact Htrav
  iapply Htiw; iexact Hhome

/-- The wait for send `w` to have left, all transfers issued and received. -/
theorem step_sent {a f w : ℕ} (hw : w < 48)
    {sS : DmaSem sig} (hS : sS = sendS ⟨w, hw⟩)
    {sp sp' : Space} {sh sh' : Shape} {e e' : EltTy} {src : Memref sig (c : Thread nD τ).2.kind sp' sh' e'} {κ' : Kind} {dst : Memref sig κ' sp sh e}
    (hN : dst.view.dmaCredit = N) {hsrc : src.view.WordExact} {hdst : dst.view.WordExact}
    {kont : PUnit → Prog (TpuEff nD τ sig (Elt F) Λ₀ .tc) α}
    (h : St P K R c 4 48 48 a f (w + 1) ⊢ run c (kont ⟨⟩) Q) :
    St P K R c 4 48 48 a f w ⊢ run c (.op (.waitDma2 sS src dst hsrc hdst) kont) Q := by
  subst hS
  unfold St owesE at *
  iintro ⟨HR, #Hrec, ⟨%W, HO⟩, Hs, Hr, Hsl, Ht, Hti⟩
  ihave Hs' := (sends_done c hw) $$ Hs
  icases Hs' with ⟨⟨Hcr, Hat⟩, Hsw⟩
  iapply (Rounds.wp_wait_rest_token 𝒱₀ ER (Rd P) (c : Thread nD τ) none (κ := K (c, some (false, ⟨w, hw⟩)))
      (wpE_waitDma2_eq 𝒱₀ (c : Thread nD τ) none Set.univ) (Set.mem_univ _) () (O := Os c 48) (W := W) (R := 0) (m := 0) (T := ∅)
      (by rw [Nat.zero_add, hN]; exact (expect_send P c ⟨w, hw⟩).symm)) $$ [Hcr HO Hat]
  · isplitr; · iapply (recs_inv P K (c, some (false, ⟨w, hw⟩))); iexact Hrec
    isplitl [Hcr]; · rw [hN]; iexact Hcr
    isplitl [HO]; · iexact HO
    isplitr
    · rw [Os_end, MayWait_zero]; iempintro
    iexact Hat
  iintro ⟨HO, Hat, -, Hpay⟩
  ihave Hp := (Entails.of_eq (rest_send P c ⟨w, hw⟩)) $$ Hpay
  imod (Rounds.cell_close ER (Rd P) (Set.mem_univ (K (c, some (false, ⟨w, hw⟩)))) (fun h => h) (R := 0 + 1) (duties_later P (sendCell ⟨w, hw⟩ c))) $$ [Hat] with Hz
  · isplitr; · iapply (recs_inv P K (c, some (false, ⟨w, hw⟩))); iexact Hrec
    iexact Hat
  iapply h
  isplitl [HR]; · iexact HR
  isplitr; · iexact Hrec
  isplitl [HO]; · iexists _; iexact HO
  isplitl [Hsw Hz]; · iapply Hsw; iexact Hz
  isplitl [Hr]; · iexact Hr
  have hpay : iprop(Slots P c 48 48 w ∗ Tiles P c 4 48 48 a f w ∗ sendPay P ⟨w, hw⟩ c) ⊢ (iprop(Slots P c 48 48 (w + 1) ∗ Tiles P c 4 48 48 a f (w + 1)) : sProp 𝕄) := by
    unfold sendPay
    by_cases h1 : w < 24
    · rw [if_pos h1, slots_back_low P c (by omega : w < 32), tiles_back_other P c (Or.inl h1)]
      iintro ⟨H, G, -⟩; isplitl [H] <;> iassumption
    · rw [if_neg h1]
      by_cases h2 : w < 32
      · rw [if_pos h2, slots_back_low P c h2]
        iintro ⟨H, G, J⟩
        isplitl [H]; · iexact H
        ihave G' := (tiles_back P c (by omega) h2) $$ G
        icases G' with ⟨-, G⟩
        iapply G; iexact J
      · obtain ⟨j, rfl⟩ : ∃ j, w = j + 8 := ⟨w - 8, by omega⟩
        rw [if_neg h2, tiles_back_other P c (Or.inr (by omega)), A_fwd P (by omega) c]
        iintro ⟨H, G, J⟩
        isplitl [H J]
        · ihave H' := (slots_back P c (by omega : j < 48) rfl (by omega) hw (by omega)) $$ H
          icases H' with ⟨Hh, Hwd⟩
          iapply Hwd
          have hj48 : j < 48 := by omega
          iapply (owns_halves (c : Thread nD τ) (sM ⟨j, hj48⟩) (S P j c))
          isplitl [J]; · iexact J
          iexact Hh
        · iexact G
  ihave Hq := hpay $$ [Hsl Hti Hp]
  · isplitl [Hsl]; · iexact Hsl
    isplitl [Hti] <;> iassumption
  icases Hq with ⟨Hsl, Hti⟩
  isplitl [Hsl]; · iexact Hsl
  isplitl [Ht]; · iexact Ht
  iexact Hti

end Steps

end Cert.Moe
-- ==== Proof.Mem.lean ====
/-
# `Mem`: the rules for loads and stores

A load or a store of a tile, of a slot, of a whole buffer that no transfer touches, and the store of a whole chunk (eight
tiles at once), from state to state.
-/
module

public import proofs.«01_k».proof.Proof.Steps
public import Idealize.ShloMosaic.Lib.VecWindow
public import Idealize.ShloMosaic.Lib.Pipeline.Value

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family weakened member by member. -/
theorem fam_mono {I : Type} {s : Finset I} {Φ Ψ : I → sProp 𝕄} (h : ∀ i ∈ s, Φ i ⊢ Ψ i) : bigSep s Φ ⊢ bigSep s Ψ := bigSep_mono h

/-- The printed slice of the output at tile `k`'s offsets is tile `k`. -/
theorem tile_eq {off : Fin 2 → ℕ} {k : ℕ} {c : Dev nD} (h : off = toff k c) {inb : ∀ a, off a + S512x128.size a ≤ S2048x1024.size a}
    {hr : ∀ a, (Rect.unit (s := S2048x1024) off S512x128.size inb).stride a = 1} :
    oM.slice (Rect.unit (s := S2048x1024) off S512x128.size inb) hr = tM k c :=
  Memref.slice_unit_congr oM h _ _ _ _

/-- A slot's contents as the 1×512×128 vector a load of it gives. -/
def slotV (X : FVec F S512x128 .bf16) : Vec F S1x512x128 .bf16 := shapeCast S1x512x128 X shapeCasts_S1x512x128_S512x128.symm

theorem slotV_cast (X : FVec F S512x128 .bf16) (h : S1x512x128.ShapeCasts S512x128) : shapeCast S512x128 (slotV X) h = X :=
  shapeCast_shapeCast X _ h

section Pay
variable (P : Dev nD → Fin 4 → FVec F S512x1024 .bf16) (c : Dev nD)

/-- What an accumulation stores: the tile plus the slot. -/
theorem acc_pay {k : ℕ} (hk : k < 24) {j : ℕ} (hj : j = k + 8) (h : S512x128.ShapeCasts S512x128) (h' : S1x512x128.ShapeCasts S512x128) :
    addf (shapeCast S512x128 (Pt P j c) h) (shapeCast S512x128 (slotV (S P k c)) h') = A P j c := by
  subst hj; rw [shapeCast_same, slotV_cast, A_acc P hk c]
/-- What a final write stores: the slot. -/
theorem fin_pay {k j : ℕ} (hj : k = j + 24) (h' : S1x512x128.ShapeCasts S512x128) : shapeCast S512x128 (slotV (S P k c)) h' = S P (j + 24) c := by
  subst hj; exact slotV_cast _ h'
end Pay

section Rules
variable (P : Dev nD → Fin 4 → FVec F S512x1024 .bf16) (K : Dev nD × CI → ℕ) (R : sProp (MT nD τ sig Unit (Elt F) ℕ UU ℕ)) (c : Dev nD)
variable {α : Type} {Q : α → sProp (MT nD τ sig Unit (Elt F) ℕ UU ℕ)}

/-- A change of the tiles is a change of the state. -/
theorem St_tiles {p p' s r a a' f f' w : ℕ} {X Y : sProp 𝕄} (h : Tiles P c p s r a f w ⊢ iprop(X ∗ (Y -∗ Tiles P c p' s r a' f' w))) :
    St P K R c p s r a f w ⊢ iprop(X ∗ (Y -∗ St P K R c p' s r a' f' w)) := by
  unfold St
  iintro ⟨H1, H2, H3, H4, H5, H6, H7, H8⟩
  ihave H := h $$ H8
  icases H with ⟨HX, HY⟩
  isplitl [HX]; · iexact HX
  iintro HZ
  isplitl [H1]; · iexact H1
  isplitl [H2]; · iexact H2
  isplitl [H3]; · iexact H3
  isplitl [H4]; · iexact H4
  isplitl [H5]; · iexact H5
  isplitl [H6]; · iexact H6
  isplitl [H7]; · iexact H7
  iapply HY; iexact HZ

/-- A slot read. -/
theorem St_slot {p s r a f w j : ℕ} (hj : j < 48) (hr : j < r) : St P K R c p s r a f w
    ⊢ iprop(∃ q, ownsTc c (sM ⟨j, hj⟩) q (S P j c) ∗ (ownsTc c (sM ⟨j, hj⟩) q (S P j c) -∗ St P K R c p s r a f w)) := by
  unfold St
  iintro ⟨H1, H2, H3, H4, H5, H6, H7, H8⟩
  ihave H := (slots_read P c hj hr) $$ H6
  icases H with ⟨%q, HX, HY⟩
  iexists q
  isplitl [HX]; · iexact HX
  iintro HZ
  isplitl [H1]; · iexact H1
  isplitl [H2]; · iexact H2
  isplitl [H3]; · iexact H3
  isplitl [H4]; · iexact H4
  isplitl [H5]; · iexact H5
  isplitl [HY HZ]; · iapply HY; iexact HZ
  isplitl [H7]; · iexact H7
  iexact H8

/-- A resource beside the transfers, used and put back or changed. -/
theorem St_rest {p s r a f w : ℕ} {R' X Y : sProp 𝕄} (h : R ⊢ iprop(X ∗ (Y -∗ R'))) :
    St P K R c p s r a f w ⊢ iprop(X ∗ (Y -∗ St P K R' c p s r a f w)) := by
  unfold St
  iintro ⟨H1, H⟩
  ihave H1' := h $$ H1
  icases H1' with ⟨HX, HY⟩
  isplitl [HX]; · iexact HX
  iintro HZ
  isplitl [HY HZ]; · iapply HY; iexact HZ
  iexact H

/-! ## Loads -/

/-- A load of a whole view that is owned. -/
theorem load_owned {sh : Shape} {e : EltTy} {M : Memref sig .tc .vmem sh e} {q : PosShare TreeShare} {X : sh.Idx → Elt F e} {Z : sProp 𝕄}
    {off : Fin sh.rank → ℕ} {inb : ∀ a, off a + sh.size a ≤ sh.size a}
    {hl : M.view.LoadsAt (Rect.unit off sh.size inb).toLoadRect} {kont : (sh.Idx → Elt F e) → Prog (TpuEff nD τ sig (Elt F) Λ₀ .tc) α}
    (h : iprop(ownsTc c M q X ∗ Z) ⊢ run c (kont X) Q) :
    iprop(ownsTc c M q X ∗ Z) ⊢ run c (.op (.load M (Rect.unit off sh.size inb).toLoadRect hl) kont) Q := by
  iintro ⟨H, HZ⟩
  ihave H' := (owns_open (c : Thread nD τ) M q X) $$ H
  icases H' with ⟨%f, %hf, H⟩
  iapply (wp_load 𝒱₀ (c : Thread nD τ) none Set.univ (m := M) (View.setOn_subset_set M.view _)) $$ H
  iintro H
  have e1 : M.view.readAt (Elt F) (Rect.unit off sh.size inb).toLoadRect f = X := (View.readAt_full M.view f inb).trans hf
  rw [e1]
  iapply h
  isplitl [H]
  · iapply (owns_close (c : Thread nD τ) M q X f hf); iexact H
  iexact HZ

/-- A tile before it takes in what came. -/
theorem step_load_tile {p s r a f w k : ℕ} (hk : k < 32) (hka : k = a + 8) (hp : ord k < p) (hs : s ≤ k)
    {M : Memref sig .tc .vmem S512x128 .bf16} (hM : M = tM k c) {off : Fin 2 → ℕ} {inb : ∀ a, off a + S512x128.size a ≤ S512x128.size a}
    {hl : M.view.LoadsAt (Rect.unit off S512x128.size inb).toLoadRect} {kont : (S512x128.Idx → Elt F .bf16) → Prog (TpuEff nD τ sig (Elt F) Λ₀ .tc) α}
    (h : St P K R c p s r a f w ⊢ run c (kont (Pt P k c)) Q) :
    St P K R c p s r a f w ⊢ run c (.op (.load M (Rect.unit off S512x128.size inb).toLoadRect hl) kont) Q := by
  subst hM
  refine (St_tiles P K R c (tiles_read P c hk hka hp hs)).trans (load_owned c ?_)
  iintro ⟨H, HZ⟩
  iapply h
  iapply HZ; iexact H

/-- A tile before its final write, at whatever it holds. -/
theorem step_load_dead {a f w : ℕ} (hf : f < 24)
    {M : Memref sig .tc .vmem S512x128 .bf16} (hM : M = tM f c) {off : Fin 2 → ℕ} {inb : ∀ a, off a + S512x128.size a ≤ S512x128.size a}
    {hl : M.view.LoadsAt (Rect.unit off S512x128.size inb).toLoadRect} {kont : (S512x128.Idx → Elt F .bf16) → Prog (TpuEff nD τ sig (Elt F) Λ₀ .tc) α}
    (h : ∀ v, St P K R c 4 48 48 a f w ⊢ run c (kont v) Q) :
    St P K R c 4 48 48 a f w ⊢ run c (.op (.load M (Rect.unit off S512x128.size inb).toLoadRect hl) kont) Q := by
  subst hM
  refine (St_tiles P K R c (tiles_final_read P c hf)).trans ?_
  unfold tE
  iintro ⟨⟨%X, H⟩, HZ⟩
  have h' := load_owned (Q := Q) c (M := tM f c) (q := fullShare) (X := X) (hl := hl) (kont := kont)
    (Z := iprop((∃ X, ownsTc c (tM f c) fullShare X) -∗ St P K R c 4 48 48 a f w)) (by
      iintro ⟨H, HZ⟩
      iapply (h X)
      iapply HZ; iexists X; iexact H)
  iapply h'
  isplitl [H] <;> iassumption

/-- A slot received. -/
theorem step_load_slot {p s r a f w j : ℕ} (hj : j < 48) (hr : j < r) {off : Fin 3 → ℕ} (ho : off = ![j, 0, 0])
    {inb : ∀ a, off a + S1x512x128.size a ≤ S48x512x128.size a}
    {hl : (cM : Memref sig .tc .vmem S48x512x128 .bf16).view.LoadsAt (Rect.unit (s := S48x512x128) off S1x512x128.size inb).toLoadRect}
    {kont : (S1x512x128.Idx → Elt F .bf16) → Prog (TpuEff nD τ sig (Elt F) Λ₀ .tc) α}
    (h : St P K R c p s r a f w ⊢ run c (kont (slotV (S P j c))) Q) :
    St P K R c p s r a f w ⊢ run c (.op (.load cM (Rect.unit (s := S48x512x128) off S1x512x128.size inb).toLoadRect hl) kont) Q := by
  subst ho
  refine (St_slot P K R c hj hr).trans ?_
  iintro ⟨%q, H, HZ⟩
  ihave H' := (owns_open (c : Thread nD τ) (sM ⟨j, hj⟩) q (S P j c)) $$ H
  icases H' with ⟨%g, %hg, H⟩
  have hS : (sM ⟨j, hj⟩).view.set = cM.view.setOn (Rect.unit (s := S48x512x128) ![j, 0, 0] S1x512x128.size inb).toLoadRect.set :=
    (View.set_reshape _ _).trans (View.set_slice _ _)
  iapply (wp_load 𝒱₀ (c : Thread nD τ) none Set.univ (m := cM) (S := (sM ⟨j, hj⟩).view.set) (subset_of_eq hS.symm)) $$ H
  iintro H
  have e1 : cM.view.readAt (Elt F) (Rect.unit (s := S48x512x128) ![j, 0, 0] S1x512x128.size inb).toLoadRect g = slotV (S P j c) := by
    unfold slotV
    rw [← hg]
    exact (shapeCast_shapeCast _ shapeCasts_S1x512x128_S512x128 _).symm
  rw [e1]
  iapply h
  iapply HZ
  iapply (owns_close (c : Thread nD τ) (sM ⟨j, hj⟩) q (S P j c) g hg); iexact H

/-- A load, at any rectangle, of a buffer beside the transfers. -/
theorem step_load_rest {p s r a f w : ℕ} {sh : Shape} {e : EltTy} {M : Memref sig .tc .vmem sh e} {q : PosShare TreeShare} {g : Buf (Elt F) (M.view.loc (c : Thread nD τ))}
    {lr : LoadRect sh} {hl : M.view.LoadsAt lr} {kont : (lr.shape.Idx → Elt F e) → Prog (TpuEff nD τ sig (Elt F) Λ₀ .tc) α}
    (hR : R ⊢ iprop((M.view.loc (c : Thread nD τ) ↦{q} g) ∗ ((M.view.loc (c : Thread nD τ) ↦{q} g) -∗ R)))
    (h : St P K R c p s r a f w ⊢ run c (kont (M.view.readAt (Elt F) lr g)) Q) :
    St P K R c p s r a f w ⊢ run c (.op (.load M lr hl) kont) Q := by
  refine (St_rest P K R c hR).trans ?_
  iintro ⟨H, HZ⟩
  iapply (wp_load 𝒱₀ (c : Thread nD τ) none Set.univ (m := M) (S := Finset.univ) (Finset.subset_univ _)) $$ H
  iintro H
  iapply h
  iapply HZ; iexact H

/-! ## Stores -/

/-- A store into an owned tile. -/
theorem store_tile {k : ℕ} {off : Fin 2 → ℕ} (ho : off = toff k c) {inb : ∀ a, off a + S512x128.size a ≤ S2048x1024.size a}
    {v : S512x128.Idx → Elt F .bf16} {X : S512x128.Idx → Elt F .bf16} {Z : sProp 𝕄}
    {hx : ((oM : Memref sig .tc .vmem S2048x1024 .bf16).access (Rect.unit (s := S2048x1024) off S512x128.size inb)).Stores Finset.univ}
    {hm : (Finset.univ : Finset (Rect.unit (s := S2048x1024) off S512x128.size inb).shape.Idx) = Finset.univ ∨ ∀ a, (Rect.unit (s := S2048x1024) off S512x128.size inb).stride a = 1}
    {kont : PUnit → Prog (TpuEff nD τ sig (Elt F) Λ₀ .tc) α}
    (h : iprop(ownsTc c (tM k c) fullShare v ∗ Z) ⊢ run c (kont ⟨⟩) Q) :
    iprop(ownsTc c (tM k c) fullShare X ∗ Z) ⊢ run c (.op (.store oM (Rect.unit (s := S2048x1024) off S512x128.size inb) v Finset.univ hx hm) kont) Q := by
  subst ho
  iintro ⟨H, HZ⟩
  ihave H' := (owns_open (c : Thread nD τ) (tM k c) fullShare X) $$ H
  icases H' with ⟨%f, -, H⟩
  iapply (wp_store 𝒱₀ (c : Thread nD τ) none Set.univ (m := oM) (r := Rect.unit (s := S2048x1024) (toff k c) S512x128.size inb) (Mk := Finset.univ)
    (S := (tM k c).view.set) (Finset.Subset.refl _)) $$ H
  iintro H
  iapply h
  isplitl [H]
  · iapply (owns_close (c : Thread nD τ) (tM k c) fullShare v _ (View.read_write_univ f v)); iexact H
  iexact HZ

/-- An accumulation stored. -/
theorem step_store_acc {p s r a f w k : ℕ} (hk : k < 32) (hka : k = a + 8) (hp : ord k < p) (hs : s ≤ k)
    {off : Fin 2 → ℕ} (ho : off = toff k c) {inb : ∀ a, off a + S512x128.size a ≤ S2048x1024.size a}
    {v : S512x128.Idx → Elt F .bf16} (hv : v = A P k c)
    {hx : ((oM : Memref sig .tc .vmem S2048x1024 .bf16).access (Rect.unit (s := S2048x1024) off S512x128.size inb)).Stores Finset.univ}
    {hm : (Finset.univ : Finset (Rect.unit (s := S2048x1024) off S512x128.size inb).shape.Idx) = Finset.univ ∨ ∀ a, (Rect.unit (s := S2048x1024) off S512x128.size inb).stride a = 1}
    {kont : PUnit → Prog (TpuEff nD τ sig (Elt F) Λ₀ .tc) α}
    (h : St P K R c p s r (a + 1) f w ⊢ run c (kont ⟨⟩) Q) :
    St P K R c p s r a f w ⊢ run c (.op (.store oM (Rect.unit (s := S2048x1024) off S512x128.size inb) v Finset.univ hx hm) kont) Q := by
  subst hv
  refine (St_tiles P K R c (tiles_acc P c hk hka hp hs)).trans (store_tile c ho ?_)
  iintro ⟨H, HZ⟩
  iapply h
  iapply HZ; iexact H

/-- A final write. -/
theorem step_store_fin {a f w : ℕ} (hf : f < 24)
    {off : Fin 2 → ℕ} (ho : off = toff f c) {inb : ∀ a, off a + S512x128.size a ≤ S2048x1024.size a}
    {v : S512x128.Idx → Elt F .bf16} (hv : v = S P (f + 24) c)
    {hx : ((oM : Memref sig .tc .vmem S2048x1024 .bf16).access (Rect.unit (s := S2048x1024) off S512x128.size inb)).Stores Finset.univ}
    {hm : (Finset.univ : Finset (Rect.unit (s := S2048x1024) off S512x128.size inb).shape.Idx) = Finset.univ ∨ ∀ a, (Rect.unit (s := S2048x1024) off S512x128.size inb).stride a = 1}
    {kont : PUnit → Prog (TpuEff nD τ sig (Elt F) Λ₀ .tc) α}
    (h : St P K R c 4 48 48 a (f + 1) w ⊢ run c (kont ⟨⟩) Q) :
    St P K R c 4 48 48 a f w ⊢ run c (.op (.store oM (Rect.unit (s := S2048x1024) off S512x128.size inb) v Finset.univ hx hm) kont) Q := by
  subst hv
  refine (St_tiles P K R c (tiles_final P c hf)).trans ?_
  unfold tE
  iintro ⟨⟨%X, H⟩, HZ⟩
  have h' := store_tile (Q := Q) c ho (inb := inb) (X := X) (hx := hx) (hm := hm) (v := S P (f + 24) c) (kont := kont)
    (Z := iprop(ownsTc c (tM f c) fullShare (S P (f + 24) c) -∗ St P K R c 4 48 48 a (f + 1) w)) (by
      iintro ⟨H, HZ⟩
      iapply h
      iapply HZ; iexact H)
  iapply h'
  isplitl [H] <;> iassumption

/-! ## A chunk -/

/-- The tiles of a device's output, as rectangles. -/
abbrev tR (c : Dev nD) (k : Fin 32) : Rect S2048x1024 := Rect.unit (s := S2048x1024) (toff k.val c) S512x128.size (toff_inb k.val c)

/-- Two tiles lie in different chunks or different lanes. -/
theorem tile_ne : ∀ (c : Dev nD) (k k' : Fin 32), k ≠ k' → (org k.val c).val ≠ (org k'.val c).val ∨ k.val % 8 ≠ k'.val % 8 := by
  decide +kernel
/-- Every chunk and lane is a tile. -/
theorem tile_of : ∀ (c : Dev nD) (i : Fin 4) (l : Fin 8), ∃ k : Fin 32, (org k.val c).val = i.val ∧ k.val % 8 = l.val := by
  decide +kernel

theorem tR_disj (c : Dev nD) (k k' : Fin 32) (h : k ≠ k') : Disjoint (tR c k).set (tR c k').set := by
  rcases tile_ne c k k' h with h | h
  · refine Rect.disjoint_of_separated _ _ (0 : Fin 2) ?_
    show (512 = 0 ∨ 512 * (org k.val c).val + 1 * (512 - 1) < 512 * (org k'.val c).val) ∨ (512 = 0 ∨ 512 * (org k'.val c).val + 1 * (512 - 1) < 512 * (org k.val c).val)
    omega
  · refine Rect.disjoint_of_separated _ _ (1 : Fin 2) ?_
    show (128 = 0 ∨ 128 * (k.val % 8) + 1 * (128 - 1) < 128 * (k'.val % 8)) ∨ (128 = 0 ∨ 128 * (k'.val % 8) + 1 * (128 - 1) < 128 * (k.val % 8))
    omega

theorem mem_tR (c : Dev nD) (k : Fin 32) (i : S2048x1024.Idx) :
    i ∈ (tR c k).set ↔ (i (0 : Fin 2)).val / 512 = (org k.val c).val ∧ (i (1 : Fin 2)).val / 128 = k.val % 8 := by
  refine (tR c k).mem_set.trans ?_
  constructor
  · intro h
    obtain ⟨j0, h0, e0⟩ := h (0 : Fin 2)
    obtain ⟨j1, h1, e1⟩ := h (1 : Fin 2)
    replace h0 : j0 < 512 := h0
    replace h1 : j1 < 128 := h1
    replace e0 : (i (0 : Fin 2)).val = 512 * (org k.val c).val + 1 * j0 := e0
    replace e1 : (i (1 : Fin 2)).val = 128 * (k.val % 8) + 1 * j1 := e1
    omega
  · rintro ⟨h0, h1⟩ a
    fin_cases a
    · refine ⟨(i (0 : Fin 2)).val % 512, Nat.mod_lt _ (by decide), ?_⟩
      show (i (0 : Fin 2)).val = 512 * (org k.val c).val + 1 * ((i (0 : Fin 2)).val % 512)
      omega
    · refine ⟨(i (1 : Fin 2)).val % 128, Nat.mod_lt _ (by decide), ?_⟩
      show (i (1 : Fin 2)).val = 128 * (k.val % 8) + 1 * ((i (1 : Fin 2)).val % 128)
      omega

theorem tR_cover (c : Dev nD) : (Finset.univ : Finset (Fin 32)).biUnion (fun k => (tR c k).set) = Finset.univ := by
  ext i
  refine ⟨fun _ => Finset.mem_univ _, fun _ => ?_⟩
  have h0 : (i (0 : Fin 2)).val < 2048 := (i (0 : Fin 2)).isLt
  have h1 : (i (1 : Fin 2)).val < 1024 := (i (1 : Fin 2)).isLt
  obtain ⟨k, hk1, hk2⟩ := tile_of c ⟨(i (0 : Fin 2)).val / 512, by omega⟩ ⟨(i (1 : Fin 2)).val / 128, by omega⟩
  exact Finset.mem_biUnion.mpr ⟨k, Finset.mem_univ _, (mem_tR c k i).mpr ⟨hk1.symm, hk2.symm⟩⟩

/-- Where the `p`-th chunk computed starts. -/
def chk (p : ℕ) (c : Dev nD) : Fin 4 := ⟨(c.val + (if p = 0 then 0 else if p = 1 then 3 else if p = 2 then 1 else 2)) % 4, Nat.mod_lt _ (by decide)⟩

theorem chk_org : ∀ (c : Dev nD) (k : Fin 32), org k.val c = chk (ord k.val) c := by decide +kernel
theorem org_chk : ∀ (c : Dev nD) (k : Fin 32) (p : Fin 4), org k.val c = chk p.val c → ord k.val = p.val := by decide +kernel

abbrev soff (p : ℕ) (c : Dev nD) : Fin 2 → ℕ := ![512 * (chk p c).val, 0]

/-- A chunk's elements are those of its tiles. -/
theorem slab_set {p : ℕ} (hp : p < 4) (inb : ∀ a, soff p c a + S512x1024.size a ≤ S2048x1024.size a) :
    ((oM : Memref sig .tc .vmem S2048x1024 .bf16).access (Rect.unit (s := S2048x1024) (soff p c) S512x1024.size inb)).set
      = (Finset.univ.filter fun k : Fin 32 => ord k.val = p).biUnion fun k => ((oM : Memref sig .tc .vmem S2048x1024 .bf16).view.slice (tR c k)).set := by
  ext i
  constructor
  · intro hi
    obtain ⟨x, rfl⟩ := View.exists_of_mem_set_slice hi
    have h0 : (x (0 : Fin 2)).val < 512 := (x (0 : Fin 2)).isLt
    have h1 : (x (1 : Fin 2)).val < 1024 := (x (1 : Fin 2)).isLt
    obtain ⟨k, hk1, hk2⟩ := tile_of c (chk p c) ⟨(x (1 : Fin 2)).val / 128, by omega⟩
    refine Finset.mem_biUnion.mpr ⟨k, Finset.mem_filter.mpr ⟨Finset.mem_univ _, org_chk c k ⟨p, hp⟩ (Fin.ext hk1)⟩, ?_⟩
    rw [View.set_slice]
    refine Finset.mem_map_of_mem _ ((mem_tR c k _).mpr ⟨?_, ?_⟩)
    · show (512 * (chk p c).val + 1 * (x (0 : Fin 2)).val) / 512 = (org k.val c).val
      rw [hk1]; omega
    · show (0 + 1 * (x (1 : Fin 2)).val) / 128 = k.val % 8
      rw [hk2]; show _ = (x (1 : Fin 2)).val / 128; rw [Nat.zero_add, Nat.one_mul]
  · intro hi
    obtain ⟨k, hk, hi⟩ := Finset.mem_biUnion.mp hi
    obtain ⟨x, rfl⟩ := View.exists_of_mem_set_slice hi
    have ho := (Finset.mem_filter.mp hk).2
    have h0 : (x (0 : Fin 2)).val < 512 := (x (0 : Fin 2)).isLt
    have h1 : (x (1 : Fin 2)).val < 128 := (x (1 : Fin 2)).isLt
    have e := chk_org c k
    rw [ho] at e
    show _ ∈ ((oM : Memref sig .tc .vmem S2048x1024 .bf16).view.slice _).set
    rw [View.set_slice]
    refine Finset.mem_map_of_mem _ ((Rect.unit (s := S2048x1024) (soff p c) S512x1024.size inb).mem_set.mpr fun a => ?_)
    fin_cases a
    · refine ⟨(x (0 : Fin 2)).val, h0, ?_⟩
      show 512 * (org k.val c).val + 1 * (x (0 : Fin 2)).val = 512 * (chk p c).val + 1 * (x (0 : Fin 2)).val
      rw [e]
    · refine ⟨128 * (k.val % 8) + (x (1 : Fin 2)).val, ?_, ?_⟩
      · show _ < 1024; omega
      · show 128 * (k.val % 8) + 1 * (x (1 : Fin 2)).val = 0 + 1 * (128 * (k.val % 8) + (x (1 : Fin 2)).val); omega

/-- The output's location on device `c`. -/
abbrev oL (c : Dev nD) := (oM : Memref sig .tc .vmem S2048x1024 .bf16).view.loc (c : Thread nD τ)

/-- The `p`-th chunk before it is computed, and after. -/
theorem tiles_slab {p s r a f w : ℕ} (hp : p < 4) (hs : ∀ k : Fin 32, ord k.val = p → s ≤ k.val) (ha : ∀ k : Fin 32, ord k.val = p → k.val < a + 8 → k.val < 8)
    (inb : ∀ a, soff p c a + S512x1024.size a ≤ S2048x1024.size a) :
    Tiles P c p s r a f w ⊢ iprop(∃ g : Buf (Elt F) (oL c),
      (oL c ↦[((oM : Memref sig .tc .vmem S2048x1024 .bf16).access (Rect.unit (s := S2048x1024) (soff p c) S512x1024.size inb)).set]{fullShare} g)
      ∗ ((oL c ↦[((oM : Memref sig .tc .vmem S2048x1024 .bf16).access (Rect.unit (s := S2048x1024) (soff p c) S512x1024.size inb)).set]{fullShare}
            ((oM : Memref sig .tc .vmem S2048x1024 .bf16).access (Rect.unit (s := S2048x1024) (soff p c) S512x1024.size inb)).write (Elt F) g (P c (chk p c)) Finset.univ)
          -∗ Tiles P c (p + 1) s r a f w)) := by
  have e1 : (bigSep (Finset.univ.filter fun k : Fin 32 => ord k.val = p) (tileSt P c p s r a f w) : sProp 𝕄)
      = bigSep (Finset.univ.filter fun k : Fin 32 => ord k.val = p) (fun k => tE k.val c) := bigSep_congr fun k hk => by
    have := (Finset.mem_filter.mp hk).2; unfold tileSt; rw [if_pos (le_of_eq this.symm)]
  have e2 : (bigSep (Finset.univ.filter fun k : Fin 32 => ¬ ord k.val = p) (tileSt P c p s r a f w) : sProp 𝕄)
      = bigSep (Finset.univ.filter fun k : Fin 32 => ¬ ord k.val = p) (tileSt P c (p + 1) s r a f w) := bigSep_congr fun k hk => by
    have h1 := (Finset.mem_filter.mp hk).2; unfold tileSt
    by_cases h : p ≤ ord k.val
    · rw [if_pos h, if_pos (show p + 1 ≤ ord k.val by omega)]
    · rw [if_neg h, if_neg (show ¬ p + 1 ≤ ord k.val by omega)]
  have e3 : (bigSep (Finset.univ.filter fun k : Fin 32 => ord k.val = p) (tileSt P c (p + 1) s r a f w) : sProp 𝕄)
      = bigSep (Finset.univ.filter fun k : Fin 32 => ord k.val = p) (fun k => ownsTc c (tM k.val c) fullShare (Pt P k.val c)) := bigSep_congr fun k hk => by
    have h1 := (Finset.mem_filter.mp hk).2; unfold tileSt
    rw [if_neg (show ¬ p + 1 ≤ ord k.val by omega), if_pos (hs k h1)]
    by_cases h : k.val < a + 8
    · rw [if_pos h, A_first P (ha k h1 h)]
    · rw [if_neg h]
  have hd : ∀ t ∈ Finset.univ.filter (fun k : Fin 32 => ord k.val = p), ∀ t' ∈ Finset.univ.filter (fun k : Fin 32 => ord k.val = p), t ≠ t' →
      Disjoint ((oM : Memref sig .tc .vmem S2048x1024 .bf16).view.slice (tR c t)).set ((oM : Memref sig .tc .vmem S2048x1024 .bf16).view.slice (tR c t')).set :=
    fun t _ t' _ h => View.disjoint_slice (tR_disj c t t' h)
  have open1 : ∀ k : Fin 32, (tE k.val c : sProp 𝕄) ⊢ iprop(∃ g : Buf (Elt F) (oL c), oL c ↦[((oM : Memref sig .tc .vmem S2048x1024 .bf16).view.slice (tR c k)).set]{fullShare} g) := by
    intro k; unfold tE
    iintro ⟨%X, H⟩
    ihave H' := (owns_open (c : Thread nD τ) (tM k.val c) fullShare X) $$ H
    icases H' with ⟨%g, -, H⟩
    iexists g; iexact H
  have close1 : ∀ g : Buf (Elt F) (oL c), ∀ k ∈ Finset.univ.filter (fun k : Fin 32 => ord k.val = p),
      (oL c ↦[((oM : Memref sig .tc .vmem S2048x1024 .bf16).view.slice (tR c k)).set]{fullShare}
        ((oM : Memref sig .tc .vmem S2048x1024 .bf16).access (Rect.unit (s := S2048x1024) (soff p c) S512x1024.size inb)).write (Elt F) g (P c (chk p c)) Finset.univ)
        ⊢ (ownsTc c (tM k.val c) fullShare (Pt P k.val c) : sProp 𝕄) := by
    intro g k hk
    refine owns_close (c : Thread nD τ) (tM k.val c) fullShare (Pt P k.val c) _ (funext fun x => ?_)
    have ho := chk_org c k
    rw [(Finset.mem_filter.mp hk).2] at ho
    have ee : (tR c k).emb x = (Rect.unit (s := S2048x1024) (soff p c) S512x1024.size inb).emb ((laneR k.val).emb x) := by
      funext a; apply Fin.ext
      fin_cases a
      · show 512 * (org k.val c).val + 1 * (x (0 : Fin 2)).val = 512 * (chk p c).val + 1 * (0 + 1 * (x (0 : Fin 2)).val)
        rw [ho]; omega
      · show 128 * (k.val % 8) + 1 * (x (1 : Fin 2)).val = 0 + 1 * (128 * (k.val % 8) + 1 * (x (1 : Fin 2)).val)
        omega
    have r1 := View.read_slice_write_emb (v := (oM : Memref sig .tc .vmem S2048x1024 .bf16).view) (Val := Elt F) (Rect.unit (s := S2048x1024) (soff p c) S512x1024.size inb)
      g (P c (chk p c)) (Finset.mem_univ ((laneR k.val).emb x))
    rw [← ee] at r1
    refine Eq.trans ?_ (r1.trans ?_)
    · rfl
    · unfold Pt; rw [ho]
  have split : ∀ Φ : Fin 32 → sProp 𝕄, bigSep Finset.univ Φ
      = iprop(bigSep (Finset.univ.filter fun k : Fin 32 => ord k.val = p) Φ ∗ bigSep (Finset.univ.filter fun k : Fin 32 => ¬ ord k.val = p) Φ) :=
    fun Φ => BI.bigSep_filter_split Finset.univ (fun k : Fin 32 => ord k.val = p)
  unfold Tiles
  rw [split, split (tileSt P c (p + 1) s r a f w), e1, e2, e3, slab_set c hp inb]
  iintro ⟨H, HZ⟩
  ihave H' := (fam_mono fun k _ => open1 k) $$ H
  ihave H' := (Idealize.SL.BI.bigSep_exists_pi _ _) $$ H'
  icases H' with ⟨%fs, H⟩
  ihave H' := (pointsTo_biUnion_join _ _ fs (fs 0) hd) $$ H
  icases H' with ⟨%g, -, H⟩
  iexists g
  isplitl [H]; · iexact H
  iintro H
  isplitl [H]
  · ihave H' := (Entails.of_eq (pointsTo_biUnion _ _ hd)) $$ H
    iapply (fam_mono (close1 g)) $$ H'
  · iexact HZ

/-- A chunk of partial products is stored: a load of what was there, then the store. -/
theorem step_slab {p s r a f w : ℕ} (hp : p < 4) (hs : ∀ k : Fin 32, ord k.val = p → s ≤ k.val) (ha : ∀ k : Fin 32, ord k.val = p → k.val < a + 8 → k.val < 8)
    {off : Fin 2 → ℕ} (ho : off = soff p c) {inb : ∀ a, off a + S512x1024.size a ≤ S2048x1024.size a}
    {v : S512x1024.Idx → Elt F .bf16} (hv : v = P c (chk p c))
    {hl : (oM : Memref sig .tc .vmem S2048x1024 .bf16).view.LoadsAt (Rect.unit (s := S2048x1024) off S512x1024.size inb).toLoadRect}
    {hx : ((oM : Memref sig .tc .vmem S2048x1024 .bf16).access (Rect.unit (s := S2048x1024) off S512x1024.size inb)).Stores Finset.univ}
    {hm : (Finset.univ : Finset (Rect.unit (s := S2048x1024) off S512x1024.size inb).shape.Idx) = Finset.univ ∨ ∀ a, (Rect.unit (s := S2048x1024) off S512x1024.size inb).stride a = 1}
    {kont : PUnit → Prog (TpuEff nD τ sig (Elt F) Λ₀ .tc) α}
    (h : St P K R c (p + 1) s r a f w ⊢ run c (kont ⟨⟩) Q) :
    St P K R c p s r a f w ⊢ run c (.op (.load oM (Rect.unit (s := S2048x1024) off S512x1024.size inb).toLoadRect hl) fun _ =>
      .op (.store oM (Rect.unit (s := S2048x1024) off S512x1024.size inb) v Finset.univ hx hm) kont) Q := by
  subst ho hv
  unfold St at h ⊢
  iintro ⟨H1, H2, H3, H4, H5, H6, H7, H8⟩
  ihave H := (tiles_slab P c hp hs ha inb) $$ H8
  icases H with ⟨%g, H, HZ⟩
  iapply (wp_load 𝒱₀ (c : Thread nD τ) none Set.univ (m := oM)
    (S := ((oM : Memref sig .tc .vmem S2048x1024 .bf16).access (Rect.unit (s := S2048x1024) (soff p c) S512x1024.size inb)).set)
    (subset_of_eq (View.set_slice _ _).symm)) $$ H
  iintro H
  iapply (wp_store 𝒱₀ (c : Thread nD τ) none Set.univ (m := oM) (r := Rect.unit (s := S2048x1024) (soff p c) S512x1024.size inb) (Mk := Finset.univ)
    (S := ((oM : Memref sig .tc .vmem S2048x1024 .bf16).access (Rect.unit (s := S2048x1024) (soff p c) S512x1024.size inb)).set) (Finset.Subset.refl _)) $$ H
  iintro H
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  iapply HZ; iexact H

/-- The end of a piece of the program. -/
theorem step_ret {p s r a f w : ℕ} {x : α} (h : St P K R c p s r a f w ⊢ Q x) : St P K R c p s r a f w ⊢ run c (.ret x) Q := by
  iintro H
  unfold run
  rw [wp_ret]; imodintro
  iapply h; iexact H

end Rules

end Cert.Moe
-- ==== Proof.Offs.lean ====
/-
# `Offs`: the offsets and devices the kernel computes, in the protocol's terms

The kernel computes its row offsets from its device's number; each offset is a tile's or a chunk's, and each target device
is a neighbour.
-/
module

public import proofs.«01_k».proof.Proof.Mem
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Tiles: lane `l` at hops 0 to 3 -/

theorem off4_eq : ∀ c : Dev nD, k0_off4 c 0#32 = toff 0 c ∧ k0_off4 c 4294967295#32 = toff 8 c ∧ k0_off4 c 4294967294#32 = toff 16 c ∧ k0_off4 c 1#32 = toff 24 c := by decide +kernel
theorem off5_eq : ∀ c : Dev nD, k0_off5 c 0#32 = toff 1 c ∧ k0_off5 c 4294967295#32 = toff 9 c ∧ k0_off5 c 4294967294#32 = toff 17 c ∧ k0_off5 c 1#32 = toff 25 c := by decide +kernel
theorem off6_eq : ∀ c : Dev nD, k0_off6 c 0#32 = toff 2 c ∧ k0_off6 c 4294967295#32 = toff 10 c ∧ k0_off6 c 4294967294#32 = toff 18 c ∧ k0_off6 c 1#32 = toff 26 c := by decide +kernel
theorem off7_eq : ∀ c : Dev nD, k0_off7 c 0#32 = toff 3 c ∧ k0_off7 c 4294967295#32 = toff 11 c ∧ k0_off7 c 4294967294#32 = toff 19 c ∧ k0_off7 c 1#32 = toff 27 c := by decide +kernel
theorem off8_eq : ∀ c : Dev nD, k0_off8 c 0#32 = toff 4 c ∧ k0_off8 c 1#32 = toff 12 c ∧ k0_off8 c 2#32 = toff 20 c ∧ k0_off8 c 4294967295#32 = toff 28 c := by decide +kernel
theorem off9_eq : ∀ c : Dev nD, k0_off9 c 0#32 = toff 5 c ∧ k0_off9 c 1#32 = toff 13 c ∧ k0_off9 c 2#32 = toff 21 c ∧ k0_off9 c 4294967295#32 = toff 29 c := by decide +kernel
theorem off10_eq : ∀ c : Dev nD, k0_off10 c 0#32 = toff 6 c ∧ k0_off10 c 1#32 = toff 14 c ∧ k0_off10 c 2#32 = toff 22 c ∧ k0_off10 c 4294967295#32 = toff 30 c := by decide +kernel
theorem off11_eq : ∀ c : Dev nD, k0_off11 c 0#32 = toff 7 c ∧ k0_off11 c 1#32 = toff 15 c ∧ k0_off11 c 2#32 = toff 23 c ∧ k0_off11 c 4294967295#32 = toff 31 c := by decide +kernel

/-! ## Chunks: of the output, the operand rows and the gate rows -/

theorem off3_eq : ∀ c : Dev nD, k0_off3 c 0#32 = soff 0 c ∧ k0_off3 c 4294967295#32 = soff 1 c ∧ k0_off3 c 1#32 = soff 2 c ∧ k0_off3 c 2#32 = soff 3 c := by decide +kernel
theorem off1_eq : ∀ c : Dev nD, k0_off1 c 0#32 = soff 0 c ∧ k0_off1 c 4294967295#32 = soff 1 c ∧ k0_off1 c 1#32 = soff 2 c ∧ k0_off1 c 2#32 = soff 3 c := by decide +kernel
theorem off2_eq : ∀ c : Dev nD, k0_off2 c 0#32 = soff 0 c ∧ k0_off2 c 4294967295#32 = soff 1 c ∧ k0_off2 c 1#32 = soff 2 c ∧ k0_off2 c 2#32 = soff 3 c := by decide +kernel

/-! ## Devices -/

theorem dev_nxt {v : ℕ} {h : v < nD} {k : ℕ} {c : Dev nD} (e : v = (c.val + 1) % 4) (hk : right k) : (⟨v, h⟩ : Dev nD) = nb k c := by
  rw [nb_right hk]; exact Fin.ext e
theorem dev_prv {v : ℕ} {h : v < nD} {k : ℕ} {c : Dev nD} (e : v = (c.val + 3) % 4) (hk : ¬ right k) : (⟨v, h⟩ : Dev nD) = nb k c := by
  rw [nb_left hk]; exact Fin.ext e

/-- Every transfer's target, in closed form. -/
theorem dev_eqs (c : Dev nD) : k0_dev3 c = ((c.val + 1) % 4) ∧ k0_dev4 c = ((c.val + 1) % 4) ∧ k0_dev5 c = ((c.val + 1) % 4) ∧ k0_dev6 c = ((c.val + 1) % 4) ∧ k0_dev7 c = ((c.val + 3) % 4) ∧ k0_dev8 c = ((c.val + 3) % 4) ∧ k0_dev9 c = ((c.val + 3) % 4) ∧ k0_dev10 c = ((c.val + 3) % 4) ∧ k0_dev11 c = ((c.val + 1) % 4) ∧ k0_dev12 c = ((c.val + 1) % 4) ∧ k0_dev13 c = ((c.val + 1) % 4) ∧ k0_dev14 c = ((c.val + 1) % 4) ∧ k0_dev15 c = ((c.val + 3) % 4) ∧ k0_dev16 c = ((c.val + 3) % 4) ∧ k0_dev17 c = ((c.val + 3) % 4) ∧ k0_dev18 c = ((c.val + 3) % 4) ∧ k0_dev19 c = ((c.val + 1) % 4) ∧ k0_dev20 c = ((c.val + 1) % 4) ∧ k0_dev21 c = ((c.val + 1) % 4) ∧ k0_dev22 c = ((c.val + 1) % 4) ∧ k0_dev23 c = ((c.val + 3) % 4) ∧ k0_dev24 c = ((c.val + 3) % 4) ∧ k0_dev25 c = ((c.val + 3) % 4) ∧ k0_dev26 c = ((c.val + 3) % 4) ∧ k0_dev27 c = ((c.val + 1) % 4) ∧ k0_dev28 c = ((c.val + 1) % 4) ∧ k0_dev29 c = ((c.val + 1) % 4) ∧ k0_dev30 c = ((c.val + 1) % 4) ∧ k0_dev31 c = ((c.val + 3) % 4) ∧ k0_dev32 c = ((c.val + 3) % 4) ∧ k0_dev33 c = ((c.val + 3) % 4) ∧ k0_dev34 c = ((c.val + 3) % 4) ∧ k0_dev35 c = ((c.val + 1) % 4) ∧ k0_dev36 c = ((c.val + 1) % 4) ∧ k0_dev37 c = ((c.val + 1) % 4) ∧ k0_dev38 c = ((c.val + 1) % 4) ∧ k0_dev39 c = ((c.val + 3) % 4) ∧ k0_dev40 c = ((c.val + 3) % 4) ∧ k0_dev41 c = ((c.val + 3) % 4) ∧ k0_dev42 c = ((c.val + 3) % 4) ∧ k0_dev43 c = ((c.val + 1) % 4) ∧ k0_dev44 c = ((c.val + 1) % 4) ∧ k0_dev45 c = ((c.val + 1) % 4) ∧ k0_dev46 c = ((c.val + 1) % 4) ∧ k0_dev47 c = ((c.val + 3) % 4) ∧ k0_dev48 c = ((c.val + 3) % 4) ∧ k0_dev49 c = ((c.val + 3) % 4) ∧ k0_dev50 c = ((c.val + 3) % 4) :=
  ⟨k0_dev3_eq c, k0_dev4_eq c, k0_dev5_eq c, k0_dev6_eq c, k0_dev7_eq c, k0_dev8_eq c, k0_dev9_eq c, k0_dev10_eq c, k0_dev11_eq c, k0_dev12_eq c, k0_dev13_eq c, k0_dev14_eq c, k0_dev15_eq c, k0_dev16_eq c, k0_dev17_eq c, k0_dev18_eq c, k0_dev19_eq c, k0_dev20_eq c, k0_dev21_eq c, k0_dev22_eq c, k0_dev23_eq c, k0_dev24_eq c, k0_dev25_eq c, k0_dev26_eq c, k0_dev27_eq c, k0_dev28_eq c, k0_dev29_eq c, k0_dev30_eq c, k0_dev31_eq c, k0_dev32_eq c, k0_dev33_eq c, k0_dev34_eq c, k0_dev35_eq c, k0_dev36_eq c, k0_dev37_eq c, k0_dev38_eq c, k0_dev39_eq c, k0_dev40_eq c, k0_dev41_eq c, k0_dev42_eq c, k0_dev43_eq c, k0_dev44_eq c, k0_dev45_eq c, k0_dev46_eq c, k0_dev47_eq c, k0_dev48_eq c, k0_dev49_eq c, k0_dev50_eq c⟩
/-- Every tile's offsets. -/
theorem tile_eqs (c : Dev nD) : (k0_off4 c 0#32 = toff 0 c ∧ k0_off4 c 4294967295#32 = toff 8 c ∧ k0_off4 c 4294967294#32 = toff 16 c ∧ k0_off4 c 1#32 = toff 24 c) ∧ (k0_off5 c 0#32 = toff 1 c ∧ k0_off5 c 4294967295#32 = toff 9 c ∧ k0_off5 c 4294967294#32 = toff 17 c ∧ k0_off5 c 1#32 = toff 25 c) ∧ (k0_off6 c 0#32 = toff 2 c ∧ k0_off6 c 4294967295#32 = toff 10 c ∧ k0_off6 c 4294967294#32 = toff 18 c ∧ k0_off6 c 1#32 = toff 26 c) ∧ (k0_off7 c 0#32 = toff 3 c ∧ k0_off7 c 4294967295#32 = toff 11 c ∧ k0_off7 c 4294967294#32 = toff 19 c ∧ k0_off7 c 1#32 = toff 27 c) ∧ (k0_off8 c 0#32 = toff 4 c ∧ k0_off8 c 1#32 = toff 12 c ∧ k0_off8 c 2#32 = toff 20 c ∧ k0_off8 c 4294967295#32 = toff 28 c) ∧ (k0_off9 c 0#32 = toff 5 c ∧ k0_off9 c 1#32 = toff 13 c ∧ k0_off9 c 2#32 = toff 21 c ∧ k0_off9 c 4294967295#32 = toff 29 c) ∧ (k0_off10 c 0#32 = toff 6 c ∧ k0_off10 c 1#32 = toff 14 c ∧ k0_off10 c 2#32 = toff 22 c ∧ k0_off10 c 4294967295#32 = toff 30 c) ∧ (k0_off11 c 0#32 = toff 7 c ∧ k0_off11 c 1#32 = toff 15 c ∧ k0_off11 c 2#32 = toff 23 c ∧ k0_off11 c 4294967295#32 = toff 31 c) :=
  And.intro (off4_eq c) (And.intro (off5_eq c) (And.intro (off6_eq c) (And.intro (off7_eq c) (And.intro (off8_eq c) (And.intro (off9_eq c) (And.intro (off10_eq c) (off11_eq c)))))))

/-! ## The kernel's parts at its buffers -/

/-- The other operands, whole. -/
abbrev rM : Memref sig .tc .vmem S512x16 .bf16 := Memref.whole cc0_stg1_0
abbrev iM : Memref sig .tc .vmem S2048x1 .i32 := Memref.whole cc0_stg2_0
abbrev eM : Memref sig .tc .vmem S4x512x1024 .bf16 := Memref.whole cc0_stg3_0
abbrev wM : Memref sig .tc .vmem S512x1024 .bf16 := Memref.whole cc0_stg4_0

/-- A part of the kernel at the buffers it is called with. -/
abbrev app {β : Sort _} (f : ∀ (arg0 : Memref sig .tc .vmem S2048x512 .bf16) (harg0 : arg0.IsWhole) (arg1 : Memref sig .tc .vmem S512x16 .bf16) (harg1 : arg1.IsWhole)
    (arg2 : Memref sig .tc .vmem S2048x1 .i32) (harg2 : arg2.IsWhole) (arg3 : Memref sig .tc .vmem S4x512x1024 .bf16) (harg3 : arg3.IsWhole)
    (arg4 : Memref sig .tc .vmem S512x1024 .bf16) (harg4 : arg4.IsWhole) (arg5 : Memref sig .tc .vmem S2048x1024 .bf16) (harg5 : arg5.IsWhole)
    (arg6 : Memref sig .tc .vmem S2048x4 .f32) (harg6 : arg6.IsWhole) (arg7 : Memref sig .tc .vmem S48x512x128 .bf16) (harg7 : arg7.IsWhole)
    (arg8 : DmaSems sig S48) (arg9 : DmaSems sig S48), β) : β :=
  f xM (Memref.isWhole_whole _) rM (Memref.isWhole_whole _) iM (Memref.isWhole_whole _) eM (Memref.isWhole_whole _) wM (Memref.isWhole_whole _) oM (Memref.isWhole_whole _)
    gM (Memref.isWhole_whole _) cM (Memref.isWhole_whole _) cc0_scratch2 cc0_scratch3

end Cert.Moe
-- ==== Proof.Walk.lean ====
/-
# `Walk`: the step rules with their side conditions settled by evaluation

At a program point the counters are numbers, so each side condition of a rule is either evaluated or read off the closed
forms of the offsets, semaphores and devices. These forms of the rules leave only the rest of the program.
-/
module

public import proofs.«01_k».proof.Proof.Offs
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {P : Dev nD → Fin 4 → FVec F S512x1024 .bf16} {K : Dev nD × CI → ℕ} {R : sProp (MT nD τ sig Unit (Elt F) ℕ UU ℕ)} {c : Dev nD}
variable {α : Type} {Q : α → sProp (MT nD τ sig Unit (Elt F) ℕ UU ℕ)}

/-- Issue transfer `k` out of a tile (hops 0 to 3). -/
theorem sndT {p k r a f w : ℕ} {src dst : Memref sig .tc .vmem S512x128 .bf16} {n : Dev nD} {sS sR : DmaSem sig}
    {hsc : (dst : Memref sig (Dev.tc n : Thread nD τ).2.kind .vmem S512x128 .bf16).view.ref.isScScratch = false}
    {hs : src.view.WordExact} {hd : (dst : Memref sig (Dev.tc n : Thread nD τ).2.kind .vmem S512x128 .bf16).view.WordExact}
    {ht : DmaTarget.Typed .vmem (.dma sR) (.remote (Dev.tc n : Thread nD τ) dst (.dma sS) hsc)}
    {kont : PUnit → Prog (TpuEff nD τ sig (Elt F) Λ₀ .tc) α}
    (h : St P K R c p (k + 1) r a f w ⊢ run c (kont ⟨⟩) Q)
    (hk : k < 32 := by decide) (hp : ord k < p := by decide) (ha : k < a + 8 := by decide) (hr : k < r + 8 := by decide) (hr' : r ≤ k + 24 := by decide) (hw : w ≤ k := by decide)
    (hsrc : src = tM k c := by exact tile_eq (by simp only [tile_eqs]))
    (hn : n = nb k c := by first | exact dev_nxt (by simp only [dev_eqs]) (by decide) | exact dev_prv (by simp only [dev_eqs]) (by decide))
    (hdst : dst = sM ⟨k, by omega⟩ := by rfl) (hS : sS = sendS ⟨k, by omega⟩ := by exact sendS_eq ⟨_, by decide⟩) (hR : sR = recvS ⟨k, by omega⟩ := by exact recvS_eq ⟨_, by decide⟩) :
    St P K R c p k r a f w ⊢ run c (.op (.enqueueDma src (.remote (Dev.tc n : Thread nD τ) dst (.dma sS) hsc) (.dma sR) hs hd ht) kont) Q := by
  by_cases h24 : k < 24
  · exact step_send_lo P K R c h24 hp ha hr hr' hw hsrc hn hdst hS hR h
  · exact step_send_mid P K R c (by omega) hk hp ha hr hr' hw hsrc hn hdst hS hR h

/-- Issue transfer `k` out of the slot of the hop before (hops 4 and 5). -/
theorem sndS {p k r a f w : ℕ} {src dst : Memref sig .tc .vmem S512x128 .bf16} {n : Dev nD} {sS sR : DmaSem sig}
    {hsc : (dst : Memref sig (Dev.tc n : Thread nD τ).2.kind .vmem S512x128 .bf16).view.ref.isScScratch = false}
    {hs : src.view.WordExact} {hd : (dst : Memref sig (Dev.tc n : Thread nD τ).2.kind .vmem S512x128 .bf16).view.WordExact}
    {ht : DmaTarget.Typed .vmem (.dma sR) (.remote (Dev.tc n : Thread nD τ) dst (.dma sS) hsc)}
    {kont : PUnit → Prog (TpuEff nD τ sig (Elt F) Λ₀ .tc) α}
    (h : St P K R c p (k + 1) r a f w ⊢ run c (kont ⟨⟩) Q)
    (hk : 32 ≤ k := by decide) (hk2 : k < 48 := by decide) (hr : k < r + 8 := by decide) (hw : w ≤ k := by decide)
    (hsrc : src = sM ⟨k - 8, by omega⟩ := by rfl)
    (hn : n = nb k c := by first | exact dev_nxt (by simp only [dev_eqs]) (by decide) | exact dev_prv (by simp only [dev_eqs]) (by decide))
    (hdst : dst = sM ⟨k, by omega⟩ := by rfl) (hS : sS = sendS ⟨k, by omega⟩ := by exact sendS_eq ⟨_, by decide⟩) (hR : sR = recvS ⟨k, by omega⟩ := by exact recvS_eq ⟨_, by decide⟩) :
    St P K R c p k r a f w ⊢ run c (.op (.enqueueDma src (.remote (Dev.tc n : Thread nD τ) dst (.dma sS) hsc) (.dma sR) hs hd ht) kont) Q :=
  step_send_hi P K R c (k - 8) (by omega) (by omega) hk2 hr hw hsrc hn hdst hS hR h

/-- Await receive `r`. -/
theorem rcv {p s r a w : ℕ} {sR : DmaSem sig}
    {sp sp' : Space} {sh sh' : Shape} {e e' : EltTy} {src : Memref sig (c : Thread nD τ).2.kind sp' sh' e'} {κ' : Kind} {dst : Memref sig κ' sp sh e}
    {hsrc : src.view.WordExact} {hdst : dst.view.WordExact}
    {kont : PUnit → Prog (TpuEff nD τ sig (Elt F) Λ₀ .tc) α}
    (h : St P K R c p s (r + 1) a 0 w ⊢ run c (kont ⟨⟩) Q)
    (hr : r < 48 := by decide) (hs : r < s := by decide) (hs' : s ≤ r + 8 := by decide) (hp : r < 24 ∨ p = 4 := by decide)
    (hR : sR = recvS ⟨r, hr⟩ := by exact recvS_eq ⟨_, by decide⟩) (hN : dst.view.dmaCredit = N := by rfl) :
    St P K R c p s r a 0 w ⊢ run c (.op (.waitDma2 sR src dst hsrc hdst) kont) Q :=
  step_recv P K R c hr hs hs' hp hR hN h

/-- Await send `w`. -/
theorem snt {a f w : ℕ} {sS : DmaSem sig}
    {sp sp' : Space} {sh sh' : Shape} {e e' : EltTy} {src : Memref sig (c : Thread nD τ).2.kind sp' sh' e'} {κ' : Kind} {dst : Memref sig κ' sp sh e}
    {hsrc : src.view.WordExact} {hdst : dst.view.WordExact}
    {kont : PUnit → Prog (TpuEff nD τ sig (Elt F) Λ₀ .tc) α}
    (h : St P K R c 4 48 48 a f (w + 1) ⊢ run c (kont ⟨⟩) Q)
    (hw : w < 48 := by decide) (hS : sS = sendS ⟨w, hw⟩ := by exact sendS_eq ⟨_, by decide⟩) (hN : dst.view.dmaCredit = N := by rfl) :
    St P K R c 4 48 48 a f w ⊢ run c (.op (.waitDma2 sS src dst hsrc hdst) kont) Q :=
  step_sent P K R c hw hS hN h

/-- Load the next tile to accumulate into. -/
theorem ldT {p s r a f w : ℕ} {M : Memref sig .tc .vmem S512x128 .bf16} {off : Fin 2 → ℕ} {inb : ∀ a, off a + S512x128.size a ≤ S512x128.size a}
    {hl : M.view.LoadsAt (Rect.unit off S512x128.size inb).toLoadRect} {kont : (S512x128.Idx → Elt F .bf16) → Prog (TpuEff nD τ sig (Elt F) Λ₀ .tc) α}
    (h : St P K R c p s r a f w ⊢ run c (kont (Pt P (a + 8) c)) Q)
    (hk : a + 8 < 32 := by decide) (hp : ord (a + 8) < p := by decide) (hs : s ≤ a + 8 := by decide)
    (hM : M = tM (a + 8) c := by exact tile_eq (by simp only [tile_eqs])) :
    St P K R c p s r a f w ⊢ run c (.op (.load M (Rect.unit off S512x128.size inb).toLoadRect hl) kont) Q :=
  step_load_tile P K R c hk rfl hp hs hM h

/-- The tile about to be written finally is loaded and not used. -/
theorem ldF {a f w : ℕ} {M : Memref sig .tc .vmem S512x128 .bf16} {off : Fin 2 → ℕ} {inb : ∀ a, off a + S512x128.size a ≤ S512x128.size a}
    {hl : M.view.LoadsAt (Rect.unit off S512x128.size inb).toLoadRect} {kont : (S512x128.Idx → Elt F .bf16) → Prog (TpuEff nD τ sig (Elt F) Λ₀ .tc) α}
    (h : ∀ v, St P K R c 4 48 48 a f w ⊢ run c (kont v) Q)
    (hf : f < 24 := by decide) (hM : M = tM f c := by exact tile_eq (by simp only [tile_eqs])) :
    St P K R c 4 48 48 a f w ⊢ run c (.op (.load M (Rect.unit off S512x128.size inb).toLoadRect hl) kont) Q :=
  step_load_dead P K R c hf hM h

/-- Load the slot to accumulate. -/
theorem ldA {p s r a f w : ℕ} {off : Fin 3 → ℕ}
    {inb : ∀ a, off a + S1x512x128.size a ≤ S48x512x128.size a}
    {hl : (cM : Memref sig .tc .vmem S48x512x128 .bf16).view.LoadsAt (Rect.unit (s := S48x512x128) off S1x512x128.size inb).toLoadRect}
    {kont : (S1x512x128.Idx → Elt F .bf16) → Prog (TpuEff nD τ sig (Elt F) Λ₀ .tc) α}
    (h : St P K R c p s r a f w ⊢ run c (kont (slotV (S P a c))) Q)
    (hj : a < 48 := by decide) (hr : a < r := by decide) (ho : off = ![a, 0, 0] := by rfl) :
    St P K R c p s r a f w ⊢ run c (.op (.load cM (Rect.unit (s := S48x512x128) off S1x512x128.size inb).toLoadRect hl) kont) Q :=
  step_load_slot P K R c hj hr ho h

/-- Load the slot to write finally. -/
theorem ldQ {p s r a f w : ℕ} {off : Fin 3 → ℕ}
    {inb : ∀ a, off a + S1x512x128.size a ≤ S48x512x128.size a}
    {hl : (cM : Memref sig .tc .vmem S48x512x128 .bf16).view.LoadsAt (Rect.unit (s := S48x512x128) off S1x512x128.size inb).toLoadRect}
    {kont : (S1x512x128.Idx → Elt F .bf16) → Prog (TpuEff nD τ sig (Elt F) Λ₀ .tc) α}
    (h : St P K R c p s r a f w ⊢ run c (kont (slotV (S P (f + 24) c))) Q)
    (hj : f + 24 < 48 := by decide) (hr : f + 24 < r := by decide) (ho : off = ![f + 24, 0, 0] := by rfl) :
    St P K R c p s r a f w ⊢ run c (.op (.load cM (Rect.unit (s := S48x512x128) off S1x512x128.size inb).toLoadRect hl) kont) Q :=
  step_load_slot P K R c hj hr ho h

/-- Store the sum of a tile and its slot. -/
theorem stA {p s r a f w : ℕ} {off : Fin 2 → ℕ} {inb : ∀ a, off a + S512x128.size a ≤ S2048x1024.size a} {v : S512x128.Idx → Elt F .bf16}
    {hx : ((oM : Memref sig .tc .vmem S2048x1024 .bf16).access (Rect.unit (s := S2048x1024) off S512x128.size inb)).Stores Finset.univ}
    {hm : (Finset.univ : Finset (Rect.unit (s := S2048x1024) off S512x128.size inb).shape.Idx) = Finset.univ ∨ ∀ a, (Rect.unit (s := S2048x1024) off S512x128.size inb).stride a = 1}
    {kont : PUnit → Prog (TpuEff nD τ sig (Elt F) Λ₀ .tc) α}
    (h : St P K R c p s r (a + 1) f w ⊢ run c (kont ⟨⟩) Q)
    (hk : a + 8 < 32 := by decide) (hp : ord (a + 8) < p := by decide) (hs : s ≤ a + 8 := by decide) (ho : off = toff (a + 8) c := by simp only [tile_eqs])
    (hv : v = A P (a + 8) c := by exact acc_pay _ _ (by decide) rfl _ _) :
    St P K R c p s r a f w ⊢ run c (.op (.store oM (Rect.unit (s := S2048x1024) off S512x128.size inb) v Finset.univ hx hm) kont) Q :=
  step_store_acc P K R c hk rfl hp hs ho hv h

/-- The final write of a tile out of its slot. -/
theorem stF {a f w : ℕ} {off : Fin 2 → ℕ} {inb : ∀ a, off a + S512x128.size a ≤ S2048x1024.size a} {v : S512x128.Idx → Elt F .bf16}
    {hx : ((oM : Memref sig .tc .vmem S2048x1024 .bf16).access (Rect.unit (s := S2048x1024) off S512x128.size inb)).Stores Finset.univ}
    {hm : (Finset.univ : Finset (Rect.unit (s := S2048x1024) off S512x128.size inb).shape.Idx) = Finset.univ ∨ ∀ a, (Rect.unit (s := S2048x1024) off S512x128.size inb).stride a = 1}
    {kont : PUnit → Prog (TpuEff nD τ sig (Elt F) Λ₀ .tc) α}
    (h : St P K R c 4 48 48 a (f + 1) w ⊢ run c (kont ⟨⟩) Q)
    (hf : f < 24 := by decide) (ho : off = toff f c := by simp only [tile_eqs]) (hv : v = S P (f + 24) c := by exact fin_pay _ _ rfl _) :
    St P K R c 4 48 48 a f w ⊢ run c (.op (.store oM (Rect.unit (s := S2048x1024) off S512x128.size inb) v Finset.univ hx hm) kont) Q :=
  step_store_fin P K R c hf ho hv h

/-- The part returns. -/
theorem fin {p s r a f w : ℕ} {x : α} {Z : α → Prop} (h : Z x := by trivial) :
    St P K R c p s r a f w ⊢ run c (.ret x) fun y => iprop(⌜Z y⌝ ∗ St P K R c p s r a f w) :=
  step_ret P K R c (by
    iintro H
    isplitr
    · ipureintro; exact h
    · iexact H)

/-- The part returns, whatever it returns. -/
theorem fin' {p s r a f w : ℕ} {x : α} : St P K R c p s r a f w ⊢ run c (.ret x) fun _ => St P K R c p s r a f w :=
  step_ret P K R c (by iintro H; iexact H)

/-- A part, then the rest. -/
theorem seq {β : Type} {X Y : sProp 𝕄} {q : Prog (TpuEff nD τ sig (Elt F) Λ₀ .tc) β} {kont : β → Prog (TpuEff nD τ sig (Elt F) Λ₀ .tc) α}
    (h1 : X ⊢ run c q fun _ => Y) (h2 : ∀ x, Y ⊢ run c (kont x) Q) : X ⊢ run c (q >>= kont) Q := by
  unfold run at *
  rw [wp_bind]
  exact h1.trans (wp_mono _ _ _ h2)
/-- A part whose result satisfies `Z`, then the rest. -/
theorem seqZ {β : Type} {X Y : sProp 𝕄} {Z : β → Prop} {q : Prog (TpuEff nD τ sig (Elt F) Λ₀ .tc) β} {kont : β → Prog (TpuEff nD τ sig (Elt F) Λ₀ .tc) α}
    (h1 : X ⊢ run c q fun x => iprop(⌜Z x⌝ ∗ Y)) (h2 : ∀ x, Z x → Y ⊢ run c (kont x) Q) : X ⊢ run c (q >>= kont) Q := by
  unfold run at *
  rw [wp_bind]
  refine h1.trans (wp_mono _ _ _ fun x => ?_)
  iintro ⟨%hz, H⟩
  iapply (h2 x hz) $$ H
end

end Cert.Moe
-- ==== Proof.Vals.lean ====
/-
# `Vals`: what the kernel computes from its operands, and the windows of the body that compute it

From the staged operands of device `c`: the router's probabilities, the routed expert as a mask, the four gate columns of
the device's own experts, the stacked weights (the four experts', then a quarter of the shared one), and from these the
partial products of each row chunk.
-/
module

public import proofs.«01_k».proof.Proof.Walk
public import Idealize.ShloMosaic.Lib.ValueIdxCore
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 1000000
local notation "𝕄" => MT nD τ sig Unit (Elt F) ℕ UU ℕ

/-! ## Values -/

theorem soffx_inb (n : ℕ) (hn : n ≤ 512) (ch : Fin 4) : ∀ a, (![512 * ch.val, 0] : Fin 2 → ℕ) a + (⟨2, ![512, n]⟩ : Shape).size a ≤ (⟨2, ![2048, n]⟩ : Shape).size a := by
  intro a
  fin_cases a
  · show 512 * ch.val + 512 ≤ 2048; have := ch.isLt; omega
  · show 0 + n ≤ n; omega
theorem erow_inb (j : Fin 4) : ∀ a, (![j.val, 0, 0] : Fin 3 → ℕ) a + S1x512x1024.size a ≤ S4x512x1024.size a := by
  have := j.isLt
  intro a
  fin_cases a
  · show j.val + 1 ≤ 4; omega
  · show 0 + 512 ≤ 512; omega
  · show 0 + 1024 ≤ 1024; omega

section Values
variable (xs : Vec F S2048x512 .bf16) (rs : Vec F S512x16 .bf16) (is : Vec F S2048x1 .i32) (es : Vec F S4x512x1024 .bf16) (ws : Vec F S512x1024 .bf16) (c : Dev nD)

/-- The device's own number, as the kernel computes it. -/
def myW : BitVec 32 := Scalar.remsi (Scalar.divsi (Dev.word c) 1#32) 4#32
/-- The expert numbers. -/
def io16 : IVec S2048x16 32 := iota .tc S2048x16 32 [1] iota_S2048x16_d1_w32
/-- The gate column of the device's expert `j`. -/
def gcol : Fin 4 → FVec F S2048x1 .f32
  | 0 => k0_pay4 (myW c) (k0_pay1 xs rs) io16 (k0_pay2 (F := F) is)
  | 1 => k0_pay5 (myW c) (k0_pay1 xs rs) io16 (k0_pay2 (F := F) is)
  | 2 => k0_pay6 (myW c) (k0_pay1 xs rs) io16 (k0_pay2 (F := F) is)
  | 3 => k0_pay7 io16 (k0_pay3 (k0_pay1 xs rs) (k0_pay2 (F := F) is)) (Scalar.muli (myW c) 4#32) 3#32
/-- The gates of the device's four experts. -/
def gates : Vec F S2048x4 .f32 := fun i => gcol xs rs is c ⟨(i (1 : Fin 2)).val, (i (1 : Fin 2)).isLt⟩ (ValueIdx.ix2 (⟨(i (0 : Fin 2)).val, (i (0 : Fin 2)).isLt⟩ : Fin 2048) (⟨0, by decide⟩ : Fin 1))

/-- Expert `j`'s weights. -/
def erow (j : Fin 4) : Vec F S1x512x1024 .bf16 := eM.view.readAt (Elt F) (Rect.unit (s := S4x512x1024) ![j.val, 0, 0] S1x512x1024.size (erow_inb j)).toLoadRect es
/-- The stacked weights. -/
def wflat : FVec F S2560x1024 .bf16 := k0_pay8 (erow es 0) (erow es 1) (erow es 2) (erow es 3) ws
/-- The operand rows of a chunk. -/
def xrows (ch : Fin 4) : Vec F S512x512 .bf16 := xM.view.readAt (Elt F) (Rect.unit (s := S2048x512) ![512 * ch.val, 0] S512x512.size (soffx_inb 512 (by decide) ch)).toLoadRect xs
/-- The gate rows of a chunk. -/
def grows (ch : Fin 4) : Vec F S512x4 .f32 := gM.view.readAt (Elt F) (Rect.unit (s := S2048x4) ![512 * ch.val, 0] S512x4.size (soffx_inb 4 (by decide) ch)).toLoadRect (gates xs rs is c)
/-- The partial products of a chunk. -/
def part (ch : Fin 4) : FVec F S512x1024 .bf16 := k0_pay13 (wflat es ws) (xrows xs ch) (grows xs rs is c ch)
end Values

/-! ## The operands' buffers -/

section Rules
variable (P : Dev nD → Fin 4 → FVec F S512x1024 .bf16) (K : Dev nD × CI → ℕ) (c : Dev nD)
variable (xs : Vec F S2048x512 .bf16) (rs : Vec F S512x16 .bf16) (is : Vec F S2048x1 .i32) (es : Vec F S4x512x1024 .bf16) (ws : Vec F S512x1024 .bf16)
variable (Z : sProp (MT nD τ sig Unit (Elt F) ℕ UU ℕ))
variable {α : Type} {Q : α → sProp (MT nD τ sig Unit (Elt F) ℕ UU ℕ)}

/-- The staged operands and the gate buffer, beside `Z`. -/
def Rb (g : Vec F S2048x4 .f32) : sProp 𝕄 :=
  iprop((gM.view.loc (c : Thread nD τ) ↦{fullShare} g) ∗ (xM.view.loc (c : Thread nD τ) ↦{fullShare} xs) ∗ (rM.view.loc (c : Thread nD τ) ↦{fullShare} rs)
    ∗ (iM.view.loc (c : Thread nD τ) ↦{fullShare} is) ∗ (eM.view.loc (c : Thread nD τ) ↦{fullShare} es) ∗ (wM.view.loc (c : Thread nD τ) ↦{fullShare} ws) ∗ Z)

variable (g : Vec F S2048x4 .f32)

theorem Rb_g (g' : Vec F S2048x4 .f32) : Rb c xs rs is es ws Z g ⊢ iprop((gM.view.loc (c : Thread nD τ) ↦{fullShare} g) ∗ ((gM.view.loc (c : Thread nD τ) ↦{fullShare} g') -∗ Rb c xs rs is es ws Z g')) := by
  unfold Rb
  iintro ⟨H, HR⟩
  isplitl [H]; · iexact H
  iintro H
  isplitl [H]; · iexact H
  iexact HR
theorem Rb_x : Rb c xs rs is es ws Z g ⊢ iprop((xM.view.loc (c : Thread nD τ) ↦{fullShare} xs) ∗ ((xM.view.loc (c : Thread nD τ) ↦{fullShare} xs) -∗ Rb c xs rs is es ws Z g)) := by
  unfold Rb
  iintro ⟨H1, H, HR⟩
  isplitl [H]; · iexact H
  iintro H
  isplitl [H1]; · iexact H1
  isplitl [H]; · iexact H
  iexact HR
theorem Rb_e : Rb c xs rs is es ws Z g ⊢ iprop((eM.view.loc (c : Thread nD τ) ↦{fullShare} es) ∗ ((eM.view.loc (c : Thread nD τ) ↦{fullShare} es) -∗ Rb c xs rs is es ws Z g)) := by
  unfold Rb
  iintro ⟨H1, H2, H3, H4, H, HR⟩
  isplitl [H]; · iexact H
  iintro H
  isplitl [H1]; · iexact H1
  isplitl [H2]; · iexact H2
  isplitl [H3]; · iexact H3
  isplitl [H4]; · iexact H4
  isplitl [H]; · iexact H
  iexact HR
theorem Rb_w : Rb c xs rs is es ws Z g ⊢ iprop((wM.view.loc (c : Thread nD τ) ↦{fullShare} ws) ∗ ((wM.view.loc (c : Thread nD τ) ↦{fullShare} ws) -∗ Rb c xs rs is es ws Z g)) := by
  unfold Rb
  iintro ⟨H1, H2, H3, H4, H5, H, HR⟩
  isplitl [H]; · iexact H
  iintro H
  isplitl [H1]; · iexact H1
  isplitl [H2]; · iexact H2
  isplitl [H3]; · iexact H3
  isplitl [H4]; · iexact H4
  isplitl [H5]; · iexact H5
  isplitl [H]; · iexact H
  iexact HR
theorem Rb_r : Rb c xs rs is es ws Z g ⊢ iprop((rM.view.loc (c : Thread nD τ) ↦{fullShare} rs) ∗ ((rM.view.loc (c : Thread nD τ) ↦{fullShare} rs) -∗ Rb c xs rs is es ws Z g)) := by
  unfold Rb
  iintro ⟨H1, H2, H, HR⟩
  isplitl [H]; · iexact H
  iintro H
  isplitl [H1]; · iexact H1
  isplitl [H2]; · iexact H2
  isplitl [H]; · iexact H
  iexact HR
theorem Rb_i : Rb c xs rs is es ws Z g ⊢ iprop((iM.view.loc (c : Thread nD τ) ↦{fullShare} is) ∗ ((iM.view.loc (c : Thread nD τ) ↦{fullShare} is) -∗ Rb c xs rs is es ws Z g)) := by
  unfold Rb
  iintro ⟨H1, H2, H3, H, HR⟩
  isplitl [H]; · iexact H
  iintro H
  isplitl [H1]; · iexact H1
  isplitl [H2]; · iexact H2
  isplitl [H3]; · iexact H3
  isplitl [H]; · iexact H
  iexact HR

/-! ## Loads and stores of these buffers -/

variable {p s r a f w : ℕ}

/-- Load the operand rows of the `q`-th chunk computed. -/
theorem ldX (q : ℕ) {off : Fin 2 → ℕ} (ho : off = soff q c) {inb : ∀ a, off a + S512x512.size a ≤ S2048x512.size a}
    {hl : xM.view.LoadsAt (Rect.unit (s := S2048x512) off S512x512.size inb).toLoadRect}
    {kont : (S512x512.Idx → Elt F .bf16) → Prog (TpuEff nD τ sig (Elt F) Λ₀ .tc) α}
    (h : St P K (Rb c xs rs is es ws Z g) c p s r a f w ⊢ run c (kont (xrows xs (chk q c))) Q) :
    St P K (Rb c xs rs is es ws Z g) c p s r a f w ⊢ run c (.op (.load xM (Rect.unit (s := S2048x512) off S512x512.size inb).toLoadRect hl) kont) Q := by
  subst ho
  exact step_load_rest P K _ c (Rb_x c xs rs is es ws Z g) h
/-- Load the gate rows of the `q`-th chunk computed. -/
theorem ldG (q : ℕ) {off : Fin 2 → ℕ} (ho : off = soff q c) {inb : ∀ a, off a + S512x4.size a ≤ S2048x4.size a}
    {hl : gM.view.LoadsAt (Rect.unit (s := S2048x4) off S512x4.size inb).toLoadRect}
    {kont : (S512x4.Idx → Elt F .f32) → Prog (TpuEff nD τ sig (Elt F) Λ₀ .tc) α}
    (h : St P K (Rb c xs rs is es ws Z (gates xs rs is c)) c p s r a f w ⊢ run c (kont (grows xs rs is c (chk q c))) Q) :
    St P K (Rb c xs rs is es ws Z (gates xs rs is c)) c p s r a f w ⊢ run c (.op (.load gM (Rect.unit (s := S2048x4) off S512x4.size inb).toLoadRect hl) kont) Q := by
  subst ho
  exact step_load_rest P K _ c (Rb_g c xs rs is es ws Z (gates xs rs is c) (gates xs rs is c)) h
/-- Load expert `j`'s weights. -/
theorem ldE (j : Fin 4) {off : Fin 3 → ℕ} (ho : off = ![j.val, 0, 0]) {inb : ∀ a, off a + S1x512x1024.size a ≤ S4x512x1024.size a}
    {hl : eM.view.LoadsAt (Rect.unit (s := S4x512x1024) off S1x512x1024.size inb).toLoadRect}
    {kont : (S1x512x1024.Idx → Elt F .bf16) → Prog (TpuEff nD τ sig (Elt F) Λ₀ .tc) α}
    (h : St P K (Rb c xs rs is es ws Z g) c p s r a f w ⊢ run c (kont (erow es j)) Q) :
    St P K (Rb c xs rs is es ws Z g) c p s r a f w ⊢ run c (.op (.load eM (Rect.unit (s := S4x512x1024) off S1x512x1024.size inb).toLoadRect hl) kont) Q := by
  subst ho
  exact step_load_rest P K _ c (Rb_e c xs rs is es ws Z g) h
/-- Load the shared expert's weights. -/
theorem ldW {inb : ∀ a, (![0, 0] : Fin 2 → ℕ) a + S512x1024.size a ≤ S512x1024.size a}
    {hl : wM.view.LoadsAt (Rect.unit (s := S512x1024) ![0, 0] S512x1024.size inb).toLoadRect}
    {kont : (S512x1024.Idx → Elt F .bf16) → Prog (TpuEff nD τ sig (Elt F) Λ₀ .tc) α}
    (h : St P K (Rb c xs rs is es ws Z g) c p s r a f w ⊢ run c (kont ws) Q) :
    St P K (Rb c xs rs is es ws Z g) c p s r a f w ⊢ run c (.op (.load wM (Rect.unit (s := S512x1024) ![0, 0] S512x1024.size inb).toLoadRect hl) kont) Q := by
  refine step_load_rest P K _ c (Rb_w c xs rs is es ws Z g) ?_
  have e : wM.view.readAt (Elt F) (Rect.unit (s := S512x1024) ![0, 0] S512x1024.size inb).toLoadRect ws = ws :=
    Memref.readAt_unit_zero (Elt F) cc0_stg4_0 (off := ![0, 0]) (by funext a; fin_cases a <;> rfl) inb ws
  exact Eq.mpr (congrArg (fun v => St P K (Rb c xs rs is es ws Z g) c p s r a f w ⊢ run c (kont v) Q) e) h
/-- Load the whole operand. -/
theorem ldX0 {inb : ∀ a, (![0, 0] : Fin 2 → ℕ) a + S2048x512.size a ≤ S2048x512.size a}
    {hl : xM.view.LoadsAt (Rect.unit (s := S2048x512) ![0, 0] S2048x512.size inb).toLoadRect}
    {kont : (S2048x512.Idx → Elt F .bf16) → Prog (TpuEff nD τ sig (Elt F) Λ₀ .tc) α}
    (h : St P K (Rb c xs rs is es ws Z g) c p s r a f w ⊢ run c (kont xs) Q) :
    St P K (Rb c xs rs is es ws Z g) c p s r a f w ⊢ run c (.op (.load xM (Rect.unit (s := S2048x512) ![0, 0] S2048x512.size inb).toLoadRect hl) kont) Q := by
  refine step_load_rest P K _ c (Rb_x c xs rs is es ws Z g) ?_
  have e : xM.view.readAt (Elt F) (Rect.unit (s := S2048x512) ![0, 0] S2048x512.size inb).toLoadRect xs = xs :=
    Memref.readAt_unit_zero (Elt F) cc0_stg0_0 (off := ![0, 0]) (by funext a; fin_cases a <;> rfl) inb xs
  exact Eq.mpr (congrArg (fun v => St P K (Rb c xs rs is es ws Z g) c p s r a f w ⊢ run c (kont v) Q) e) h
/-- Load the router. -/
theorem ldR {inb : ∀ a, (![0, 0] : Fin 2 → ℕ) a + S512x16.size a ≤ S512x16.size a}
    {hl : rM.view.LoadsAt (Rect.unit (s := S512x16) ![0, 0] S512x16.size inb).toLoadRect}
    {kont : (S512x16.Idx → Elt F .bf16) → Prog (TpuEff nD τ sig (Elt F) Λ₀ .tc) α}
    (h : St P K (Rb c xs rs is es ws Z g) c p s r a f w ⊢ run c (kont rs) Q) :
    St P K (Rb c xs rs is es ws Z g) c p s r a f w ⊢ run c (.op (.load rM (Rect.unit (s := S512x16) ![0, 0] S512x16.size inb).toLoadRect hl) kont) Q := by
  refine step_load_rest P K _ c (Rb_r c xs rs is es ws Z g) ?_
  have e : rM.view.readAt (Elt F) (Rect.unit (s := S512x16) ![0, 0] S512x16.size inb).toLoadRect rs = rs :=
    Memref.readAt_unit_zero (Elt F) cc0_stg1_0 (off := ![0, 0]) (by funext a; fin_cases a <;> rfl) inb rs
  exact Eq.mpr (congrArg (fun v => St P K (Rb c xs rs is es ws Z g) c p s r a f w ⊢ run c (kont v) Q) e) h
/-- Load the routes. -/
theorem ldI {inb : ∀ a, (![0, 0] : Fin 2 → ℕ) a + S2048x1.size a ≤ S2048x1.size a}
    {hl : iM.view.LoadsAt (Rect.unit (s := S2048x1) ![0, 0] S2048x1.size inb).toLoadRect}
    {kont : (S2048x1.Idx → Elt F .i32) → Prog (TpuEff nD τ sig (Elt F) Λ₀ .tc) α}
    (h : St P K (Rb c xs rs is es ws Z g) c p s r a f w ⊢ run c (kont is) Q) :
    St P K (Rb c xs rs is es ws Z g) c p s r a f w ⊢ run c (.op (.load iM (Rect.unit (s := S2048x1) ![0, 0] S2048x1.size inb).toLoadRect hl) kont) Q := by
  refine step_load_rest P K _ c (Rb_i c xs rs is es ws Z g) ?_
  have e : iM.view.readAt (Elt F) (Rect.unit (s := S2048x1) ![0, 0] S2048x1.size inb).toLoadRect is = is :=
    Memref.readAt_unit_zero (Elt F) cc0_stg2_0 (off := ![0, 0]) (by funext a; fin_cases a <;> rfl) inb is
  exact Eq.mpr (congrArg (fun v => St P K (Rb c xs rs is es ws Z g) c p s r a f w ⊢ run c (kont v) Q) e) h

end Rules

/-! ## The gate columns -/

theorem gcol_inb (j : Fin 4) : ∀ a, (![0, j.val] : Fin 2 → ℕ) a + S2048x1.size a ≤ S2048x4.size a := by
  have := j.isLt
  intro a
  fin_cases a
  · show 0 + 2048 ≤ 2048; omega
  · show j.val + 1 ≤ 4; omega
/-- Column `j` of the gate buffer. -/
abbrev gR (j : Fin 4) : Rect S2048x4 := Rect.unit (s := S2048x4) ![0, j.val] S2048x1.size (gcol_inb j)
/-- The gate buffer once column `j` is written. -/
def gput (j : Fin 4) (v : FVec F S2048x1 .f32) (g : Vec F S2048x4 .f32) : Vec F S2048x4 .f32 := (gM.access (gR j)).write (Elt F) g v Finset.univ

theorem gput_at (j : Fin 4) (v : FVec F S2048x1 .f32) (g : Vec F S2048x4 .f32) (i : S2048x4.Idx) :
    gput j v g i = if (i (1 : Fin 2)).val = j.val then v (ValueIdx.ix2 (⟨(i (0 : Fin 2)).val, (i (0 : Fin 2)).isLt⟩ : Fin 2048) (⟨0, by decide⟩ : Fin 1)) else g i := by
  have h0 : (i (0 : Fin 2)).val < 2048 := (i (0 : Fin 2)).isLt
  by_cases h : (i (1 : Fin 2)).val = j.val
  · rw [if_pos h]
    have e : i = (gM.access (gR j)).emb (ValueIdx.ix2 (⟨(i (0 : Fin 2)).val, h0⟩ : Fin 2048) (⟨0, by decide⟩ : Fin 1)) := by
      funext a; apply Fin.ext
      fin_cases a
      · show (i (0 : Fin 2)).val = 0 + 1 * (i (0 : Fin 2)).val; omega
      · show (i (1 : Fin 2)).val = j.val + 1 * 0; omega
    have := View.write_emb_of_mem (v := gM.access (gR j)) (Val := Elt F) g v (Finset.mem_univ (ValueIdx.ix2 (⟨(i (0 : Fin 2)).val, h0⟩ : Fin 2048) (⟨0, by decide⟩ : Fin 1) : (gR j).shape.Idx))
    rw [← e] at this
    exact this
  · rw [if_neg h]
    refine View.write_of_not_mem _ _ _ fun hm => ?_
    obtain ⟨x, -, hx⟩ := Finset.mem_map.mp hm
    apply h
    rw [← hx]
    show j.val + 1 * (x (1 : Fin 2)).val = j.val
    have : (x (1 : Fin 2)).val < 1 := (x (1 : Fin 2)).isLt
    omega

section Rules2
variable (P : Dev nD → Fin 4 → FVec F S512x1024 .bf16) (K : Dev nD × CI → ℕ) (c : Dev nD)
variable (xs : Vec F S2048x512 .bf16) (rs : Vec F S512x16 .bf16) (is : Vec F S2048x1 .i32) (es : Vec F S4x512x1024 .bf16) (ws : Vec F S512x1024 .bf16)
variable (Z : sProp (MT nD τ sig Unit (Elt F) ℕ UU ℕ))
variable {α : Type} {Q : α → sProp (MT nD τ sig Unit (Elt F) ℕ UU ℕ)}

/-- The four columns written are the gates. -/
theorem gput_all (g : Vec F S2048x4 .f32) :
    gput 3 (gcol xs rs is c 3) (gput 2 (gcol xs rs is c 2) (gput 1 (gcol xs rs is c 1) (gput 0 (gcol xs rs is c 0) g))) = gates xs rs is c := by
  funext i
  have h1 : (i (1 : Fin 2)).val < 4 := (i (1 : Fin 2)).isLt
  rw [gput_at, gput_at, gput_at, gput_at]
  unfold gates
  generalize ValueIdx.ix2 (⟨(i (0 : Fin 2)).val, (i (0 : Fin 2)).isLt⟩ : Fin 2048) (⟨0, by decide⟩ : Fin 1) = y
  generalize hv : (⟨(i (1 : Fin 2)).val, (i (1 : Fin 2)).isLt⟩ : Fin 4) = k
  have hk : (i (1 : Fin 2)).val = k.val := congrArg Fin.val hv
  rw [hk]
  fin_cases k <;> rfl

variable {p s r a f w : ℕ} (g : Vec F S2048x4 .f32)

/-- A gate column is stored: a load of what was there, then the store. -/
theorem stG (j : Fin 4) {v : S2048x1.Idx → Elt F .f32}
    {off : Fin 2 → ℕ} (ho : off = ![0, j.val]) {inb : ∀ a, off a + S2048x1.size a ≤ S2048x4.size a}
    {hl : gM.view.LoadsAt (Rect.unit (s := S2048x4) off S2048x1.size inb).toLoadRect}
    {hx : (gM.access (Rect.unit (s := S2048x4) off S2048x1.size inb)).Stores Finset.univ}
    {hm : (Finset.univ : Finset (Rect.unit (s := S2048x4) off S2048x1.size inb).shape.Idx) = Finset.univ ∨ ∀ a, (Rect.unit (s := S2048x4) off S2048x1.size inb).stride a = 1}
    {kont : PUnit → Prog (TpuEff nD τ sig (Elt F) Λ₀ .tc) α}
    (h : St P K (Rb c xs rs is es ws Z (gput j v g)) c p s r a f w ⊢ run c (kont ⟨⟩) Q) :
    St P K (Rb c xs rs is es ws Z g) c p s r a f w ⊢ run c (.op (.load gM (Rect.unit (s := S2048x4) off S2048x1.size inb).toLoadRect hl) fun _ =>
      .op (.store gM (Rect.unit (s := S2048x4) off S2048x1.size inb) v Finset.univ hx hm) kont) Q := by
  subst ho
  refine step_load_rest P K _ c (Rb_g c xs rs is es ws Z g g) ?_
  refine (St_rest P K _ c (Rb_g c xs rs is es ws Z g (gput j v g))).trans ?_
  iintro ⟨H, HZ⟩
  iapply (wp_store 𝒱₀ (c : Thread nD τ) none Set.univ (m := gM) (r := gR j) (Mk := Finset.univ) (S := Finset.univ) (Finset.subset_univ _)) $$ H
  iintro H
  iapply h
  iapply HZ; iexact H

end Rules2

end Cert.Moe
-- ==== Proof.Slabs.lean ====
/-
# `Slabs`: the windows that fill the gates and compute the partial products
-/
module

public import proofs.«01_k».proof.Proof.Vals
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 1000000
local notation "𝕄" => MT nD τ sig Unit (Elt F) ℕ UU ℕ

variable (P : Dev nD → Fin 4 → FVec F S512x1024 .bf16) (K : Dev nD × CI → ℕ) (c : Dev nD)
variable (xs : Vec F S2048x512 .bf16) (rs : Vec F S512x16 .bf16) (is : Vec F S2048x1 .i32) (es : Vec F S4x512x1024 .bf16) (ws : Vec F S512x1024 .bf16)
variable (Z : sProp (MT nD τ sig Unit (Elt F) ℕ UU ℕ))

/-- The partial products of the `q`-th chunk are stored over its eight tiles. -/
theorem slb {R : sProp 𝕄} {α : Type} {Q : α → sProp (MT nD τ sig Unit (Elt F) ℕ UU ℕ)} {q s r a f w : ℕ}
    {off : Fin 2 → ℕ} {inb : ∀ a, off a + S512x1024.size a ≤ S2048x1024.size a} {v : S512x1024.Idx → Elt F .bf16}
    {hl : (oM : Memref sig .tc .vmem S2048x1024 .bf16).view.LoadsAt (Rect.unit (s := S2048x1024) off S512x1024.size inb).toLoadRect}
    {hx : ((oM : Memref sig .tc .vmem S2048x1024 .bf16).access (Rect.unit (s := S2048x1024) off S512x1024.size inb)).Stores Finset.univ}
    {hm : (Finset.univ : Finset (Rect.unit (s := S2048x1024) off S512x1024.size inb).shape.Idx) = Finset.univ ∨ ∀ a, (Rect.unit (s := S2048x1024) off S512x1024.size inb).stride a = 1}
    {kont : PUnit → Prog (TpuEff nD τ sig (Elt F) Λ₀ .tc) α}
    (hv : v = P c (chk q c)) (ho : off = soff q c)
    (h : St P K R c (q + 1) s r a f w ⊢ run c (kont ⟨⟩) Q)
    (hp : q < 4 := by decide) (hs : ∀ k : Fin 32, ord k.val = q → s ≤ k.val := by decide) (ha : ∀ k : Fin 32, ord k.val = q → k.val < a + 8 → k.val < 8 := by decide) :
    St P K R c q s r a f w ⊢ run c (.op (.load oM (Rect.unit (s := S2048x1024) off S512x1024.size inb).toLoadRect hl) fun _ =>
      .op (.store oM (Rect.unit (s := S2048x1024) off S512x1024.size inb) v Finset.univ hx hm) kont) Q :=
  step_slab P K R c hp hs ha ho hv h

/-- Window 2: the first three gate columns. -/
theorem part_2 (g : Vec F S2048x4 .f32) :
    St P K (Rb c xs rs is es ws Z g) c 0 0 0 0 0 0 ⊢ run c (app (k0_part2 (F := F)) (myW c) (k0_pay1 xs rs) io16 (k0_pay2 (F := F) is)) fun x =>
      iprop(⌜x = ⟨k0_pay3 (k0_pay1 xs rs) (k0_pay2 (F := F) is), Scalar.muli (myW c) 4#32, 3#32⟩⌝
        ∗ St P K (Rb c xs rs is es ws Z (gput 2 (gcol xs rs is c 2) (gput 1 (gcol xs rs is c 1) (gput 0 (gcol xs rs is c 0) g)))) c 0 0 0 0 0 0) := by
  simp only [k0_part2_eq_skeleton, k0_part2_skel, Prog.lift, Prog.bind_op, Prog.bind_ret, Prog.pure_eq_ret]
  refine stG P K c xs rs is es ws Z _ 0 rfl ?_
  refine stG P K c xs rs is es ws Z _ 1 rfl ?_
  refine stG P K c xs rs is es ws Z _ 2 rfl ?_
  exact fin rfl

/-- Window 3: the last gate column, the stacked weights, the operands of the first chunk. -/
theorem part_3 (g : Vec F S2048x4 .f32) :
    St P K (Rb c xs rs is es ws Z (gput 2 (gcol xs rs is c 2) (gput 1 (gcol xs rs is c 1) (gput 0 (gcol xs rs is c 0) g)))) c 0 0 0 0 0 0
      ⊢ run c (app (k0_part3 (F := F)) c (myW c) io16 (k0_pay3 (k0_pay1 xs rs) (k0_pay2 (F := F) is)) (Scalar.muli (myW c) 4#32) 3#32) fun x =>
      iprop(⌜x.1 = wflat es ws ∧ x.2.2 = ⟨k0_pay9 (xrows xs (chk 0 c)), k0_pay10 (grows xs rs is c (chk 0 c)), k0_pay11 (grows xs rs is c (chk 0 c))⟩⌝
        ∗ St P K (Rb c xs rs is es ws Z (gates xs rs is c)) c 0 0 0 0 0 0) := by
  simp only [k0_part3_eq_skeleton, k0_part3_skel, Prog.lift, Prog.bind_op, Prog.bind_ret, Prog.pure_eq_ret]
  refine stG P K c xs rs is es ws Z _ 3 rfl ?_
  have e : gput 3 (k0_pay7 io16 (k0_pay3 (k0_pay1 xs rs) (k0_pay2 (F := F) is)) (Scalar.muli (myW c) 4#32) 3#32)
      (gput 2 (gcol xs rs is c 2) (gput 1 (gcol xs rs is c 1) (gput 0 (gcol xs rs is c 0) g))) = gates xs rs is c := gput_all c xs rs is g
  rw [e]
  refine ldE P K c xs rs is es ws Z _ 0 rfl ?_
  refine ldE P K c xs rs is es ws Z _ 1 rfl ?_
  refine ldE P K c xs rs is es ws Z _ 2 rfl ?_
  refine ldE P K c xs rs is es ws Z _ 3 rfl ?_
  refine ldW P K c xs rs is es ws Z _ ?_
  refine ldX P K c xs rs is es ws Z _ 0 (off1_eq c).1 ?_
  refine ldG P K c xs rs is es ws Z 0 (off2_eq c).1 ?_
  exact fin ⟨rfl, rfl⟩

variable (hP : ∀ ch, P c ch = part xs rs is es ws c ch)
include hP

/-- Window 4: the first chunk's partial products, and the first transfer. -/
theorem part_4 (v2 v7 v94 : BitVec 32) :
    St P K (Rb c xs rs is es ws Z (gates xs rs is c)) c 0 0 0 0 0 0
      ⊢ run c (app (k0_part4 (F := F)) c v2 v7 (wflat es ws) v94 (k0_pay9 (xrows xs (chk 0 c))) (k0_pay10 (grows xs rs is c (chk 0 c))) (k0_pay11 (grows xs rs is c (chk 0 c)))) fun _ =>
      St P K (Rb c xs rs is es ws Z (gates xs rs is c)) c 1 1 0 0 0 0 := by
  simp only [k0_part4_eq_skeleton, k0_part4_skel, Prog.lift, Prog.bind_op, Prog.bind_ret, Prog.pure_eq_ret]
  refine slb P K c (hP _).symm (off3_eq c).1 ?_
  refine sndT ?_
  exact fin'

/-- Window 7: the last of the first eight transfers, the second chunk's partial products, the third chunk's operand. -/
theorem part_7 (v2 : BitVec 32) :
    St P K (Rb c xs rs is es ws Z (gates xs rs is c)) c 1 7 0 0 0 0
      ⊢ run c (app (k0_part7 (F := F)) c v2 (wflat es ws)) fun x =>
      iprop(⌜x.2 = k0_pay14 (xrows xs (chk 2 c))⌝ ∗ St P K (Rb c xs rs is es ws Z (gates xs rs is c)) c 2 8 0 0 0 0) := by
  simp only [k0_part7_eq_skeleton, k0_part7_skel, Prog.lift, Prog.bind_op, Prog.bind_ret, Prog.pure_eq_ret]
  refine sndT ?_
  refine ldX P K c xs rs is es ws Z _ 1 (off1_eq c).2.1 ?_
  refine ldG P K c xs rs is es ws Z 1 (off2_eq c).2.1 ?_
  refine slb P K c (hP _).symm (off3_eq c).2.1 ?_
  refine ldX P K c xs rs is es ws Z _ 2 (off1_eq c).2.2.1 ?_
  exact fin rfl

/-- Window 8: the third chunk's partial products, the first arrival. -/
theorem part_8 (v2 v7 v234 : BitVec 32) :
    St P K (Rb c xs rs is es ws Z (gates xs rs is c)) c 2 8 0 0 0 0
      ⊢ run c (app (k0_part8 (F := F)) c v2 v7 (wflat es ws) v234 (k0_pay14 (xrows xs (chk 2 c)))) fun x =>
      iprop(⌜x.2.2 = k0_pay16 (Pt P 8 c)⌝ ∗ St P K (Rb c xs rs is es ws Z (gates xs rs is c)) c 3 8 1 0 0 0) := by
  simp only [k0_part8_eq_skeleton, k0_part8_skel, Prog.lift, Prog.bind_op, Prog.bind_ret, Prog.pure_eq_ret]
  refine ldG P K c xs rs is es ws Z 2 (off2_eq c).2.2.1 ?_
  refine slb P K c (hP _).symm (off3_eq c).2.2.1 ?_
  refine rcv ?_
  refine ldT ?_
  exact fin rfl

/-- Window 16: the last chunk's partial products, an arrival. -/
theorem part_16 (v2 v7 v465 c4 : BitVec 32) :
    St P K (Rb c xs rs is es ws Z (gates xs rs is c)) c 3 16 8 8 0 0
      ⊢ run c (app (k0_part16 (F := F)) c v2 v7 (wflat es ws) v465 c4) fun _ =>
      St P K (Rb c xs rs is es ws Z (gates xs rs is c)) c 4 16 9 8 0 0 := by
  simp only [k0_part16_eq_skeleton, k0_part16_skel, Prog.lift, Prog.bind_op, Prog.bind_ret, Prog.pure_eq_ret]
  refine ldX P K c xs rs is es ws Z _ 3 (off1_eq c).2.2.2 ?_
  refine ldG P K c xs rs is es ws Z 3 (off2_eq c).2.2.2 ?_
  refine slb P K c (hP _).symm (off3_eq c).2.2.2 ?_
  refine rcv ?_
  exact fin'

end Cert.Moe
-- ==== Proof.Head.lean ====
/-
# `Head`: the barrier handshake

A device starts holding its own slots; it hands the ones its previous neighbour copies into to that neighbour, the others
to the next one, and takes from its barrier the slots it will copy into itself. From there on it is in the state `St`.
-/
module

public import proofs.«01_k».proof.Proof.Slabs
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 1000000
local notation "𝕄" => MT nD τ sig Unit (Elt F) ℕ UU ℕ

section
variable (P : Dev nD → Fin 4 → FVec F S512x1024 .bf16) (K : Dev nD × CI → ℕ) (c : Dev nD)

/-- A device's own tokens and positions of transfer `k`'s send. -/
def tok0 (k : Fin 48) : sProp 𝕄 :=
  iprop(dutyTok ER (sendCell k c) 0 false ∗ dutyTok ER (recvCell k (nb k.val c)) 0 false ∗ atPos ER (sendCell k c) 0 ∅ 0)

/-- What a device holds of the protocol when its body starts. -/
def ghost : sProp 𝕄 :=
  iprop(recs P K ∗ atPos ER (barCell c) 0 ∅ 0 ∗ dutyTok ER (barCell (prv c)) 0 true ∗ dutyTok ER (barCell (nxt c)) 0 false
    ∗ (bigSep Finset.univ fun k : Fin 48 => tok0 (F := F) c k) ∗ (bigSep Finset.univ fun k : Fin 48 => (atPos ER (recvCell k c) 0 ∅ 0 : sProp 𝕄)))
/-- Its credits: what the others will pay to its cells. -/
def creds : sProp 𝕄 := iprop(cred (tallyAt (barCell c) () 2) ∗ bigSep Finset.univ fun k : Fin 48 => (cred (tallyAt (recvCell k c) () N) : sProp 𝕄))
/-- Its slots and tiles. -/
def bufs : sProp 𝕄 := iprop((bigSep Finset.univ fun k : Fin 48 => sE (F := F) k c) ∗ bigSep Finset.univ fun k : Fin 32 => tE (F := F) k.val c)
/-- All of it, and the launch's debt. -/
def start : sProp 𝕄 := iprop(ghost P K c ∗ creds c ∗ bufs c ∗ ∃ W, owes (c : Thread nD τ) (O₀ c) W)

/-- A device's slots are what it hands to its two neighbours. -/
theorem slots_give : (bigSep Finset.univ fun k : Fin 48 => sE (F := F) k c) = iprop(barPay (prv c) true ∗ barPay (nxt c) false) := by
  unfold barPay
  refine Eq.trans ?_ (bigSep_sep _ _ _)
  refine bigSep_congr fun k _ => ?_
  by_cases h : right k.val
  · rw [decide_eq_true h, if_pos rfl, if_neg (by decide), nb_right h, nxt_prv]; exact (BI.equiv_iff.mp BI.sep_emp).symm
  · rw [decide_eq_false h, if_neg (by decide), if_pos rfl, nb_left h, prv_nxt]; exact (BI.equiv_iff.mp BI.emp_sep).symm

theorem sep_regroup (A B C D : sProp 𝕄) : iprop(A ∗ B ∗ C ∗ D) = iprop((A ∗ B ∗ C) ∗ D) := by
  have h1 : iprop(A ∗ B ∗ C ∗ D) ⊢ iprop((A ∗ B ∗ C) ∗ D) := by
    iintro ⟨H1, H2, H3, H4⟩
    isplitr [H4]
    · isplitl [H1]; · iexact H1
      isplitl [H2]; · iexact H2
      iexact H3
    · iexact H4
  have h2 : iprop((A ∗ B ∗ C) ∗ D) ⊢ iprop(A ∗ B ∗ C ∗ D) := by
    iintro ⟨⟨H1, H2, H3⟩, H4⟩
    isplitl [H1]; · iexact H1
    isplitl [H2]; · iexact H2
    isplitl [H3]; · iexact H3
    iexact H4
  exact BI.equiv_iff.mp ⟨h1, h2⟩

/-- After the handshake the device is in the state at counters zero. -/
theorem st_intro (R : sProp 𝕄) :
    iprop(R ∗ recs P K ∗ owesE (F := F) c 0 ∗ (bigSep Finset.univ fun k : Fin 48 => tok0 (F := F) c k) ∗ (bigSep Finset.univ fun k : Fin 48 => sE (F := F) k (nb k.val c))
      ∗ (bigSep Finset.univ fun k : Fin 48 => (atPos ER (recvCell k c) 0 ∅ 0 : sProp 𝕄)) ∗ (bigSep Finset.univ fun k : Fin 48 => (cred (tallyAt (recvCell k c) () N) : sProp 𝕄))
      ∗ bigSep Finset.univ fun k : Fin 32 => tE (F := F) k.val c) ⊢ St P K R c 0 0 0 0 0 0 := by
  have e1 : Sends (F := F) c 0 0 = iprop((bigSep Finset.univ fun k : Fin 48 => tok0 (F := F) c k) ∗ bigSep Finset.univ fun k : Fin 48 => sE (F := F) k (nb k.val c)) := by
    refine Eq.trans ?_ (bigSep_sep _ _ _)
    unfold Sends
    refine bigSep_congr fun k _ => ?_
    unfold sendSt tok0
    rw [if_pos (Nat.zero_le _)]
    exact sep_regroup _ _ _ _
  have e2 : Recvs (F := F) c 0 = iprop((bigSep Finset.univ fun k : Fin 48 => (atPos ER (recvCell k c) 0 ∅ 0 : sProp 𝕄))
      ∗ bigSep Finset.univ fun k : Fin 48 => (cred (tallyAt (recvCell k c) () N) : sProp 𝕄)) := by
    refine Eq.trans ?_ (bigSep_sep _ _ _)
    unfold Recvs
    exact bigSep_congr fun k _ => if_pos (Nat.zero_le _)
  have e3 : Slots P c 0 0 0 = iprop(emp) := by
    unfold Slots
    refine Eq.trans ?_ (bigSep_emp_const (Finset.univ : Finset (Fin 48)))
    exact bigSep_congr fun k _ => if_pos (Nat.zero_le _)
  have e4 : Travs (F := F) c 0 0 = iprop(emp) := by
    unfold Travs
    refine Eq.trans ?_ (bigSep_emp_const (Finset.univ : Finset (Fin 48)))
    exact bigSep_congr fun k _ => if_neg (by omega)
  have e5 : Tiles P c 0 0 0 0 0 0 = bigSep Finset.univ fun k : Fin 32 => tE (F := F) k.val c := by
    unfold Tiles
    exact bigSep_congr fun k _ => if_pos (Nat.zero_le _)
  unfold St
  rw [e1, e2, e3, e4, e5]
  iintro ⟨H1, H2, H3, H4, H5, H6, H7, H8⟩
  isplitl [H1]; · iexact H1
  isplitl [H2]; · iexact H2
  isplitl [H3]; · iexact H3
  isplitl [H4 H5]; · isplitl [H4] <;> iassumption
  isplitl [H6 H7]; · isplitl [H6] <;> iassumption
  isplitr; · iempintro
  isplitr; · iempintro
  iexact H8
end

variable (P : Dev nD → Fin 4 → FVec F S512x1024 .bf16) (K : Dev nD × CI → ℕ) (c : Dev nD)
variable (xs : Vec F S2048x512 .bf16) (rs : Vec F S512x16 .bf16) (is : Vec F S2048x1 .i32) (es : Vec F S4x512x1024 .bf16) (ws : Vec F S512x1024 .bf16)

theorem dev1 : (⟨k0_dev1 c, k0_dev1_lt c⟩ : Dev nD) = prv c := Fin.ext (k0_dev1_eq c)
theorem dev2 : (⟨k0_dev2 c, k0_dev2_lt c⟩ : Dev nD) = nxt c := Fin.ext (k0_dev2_eq c)

/-- Window 1: the handshake, then the router's probabilities and the mask of the routed expert. -/
theorem part_1 (g : Vec F S2048x4 .f32) :
    iprop(Rb c xs rs is es ws iprop(emp) g ∗ start P K c) ⊢ run c (app (k0_part1 (F := F))) fun x =>
      iprop(⌜x.1 = c ∧ x.2.1 = myW c ∧ x.2.2.2.2 = ⟨k0_pay1 xs rs, io16, k0_pay2 (F := F) is⟩⌝
        ∗ St P K (Rb c xs rs is es ws (semVal (barCell c) 0) g) c 0 0 0 0 0 0) := by
  simp only [k0_part1_eq_skeleton, k0_part1_skel, semSignalWord, semWaitWord, Prog.lift, Prog.bind_op, Prog.bind_ret, Prog.pure_eq_ret]
  unfold run
  simp only [wp_deviceId, dev1 c, dev2 c]
  unfold start ghost creds bufs
  rw [slots_give]
  iintro ⟨HR, ⟨#HI, HatB, HtP, HtN, Htok, Hat⟩, ⟨HcB, Hcr⟩, ⟨⟨HgP, HgN⟩, Ht⟩, ⟨%W, HO⟩⟩
  ihave #HIp := (recs_inv P K (prv c, none)) $$ HI
  ihave #HIn := (recs_inv P K (nxt c, none)) $$ HI
  ihave #HIc := (recs_inv P K (c, none)) $$ HI
  ihave #HRp := (recs_reached P K (prv c, none)) $$ HI
  ihave #HRn := (recs_reached P K (nxt c, none)) $$ HI
  ihave #Hlev := (recs_lev P K) $$ HI
  iapply (Rounds.wp_signal 𝒱₀ ER (Rd P) (c : Thread nD τ) none (dst := (prv c : Thread nD τ)) (κ := K (prv c, none))
      (d := true) (by rw [duties_bar]; exact Finset.mem_univ _) ((amount_bar P (prv c) true).trans (by decide)) () (O₁ c) rfl)
    $$ [HO HtP HgP]
  · isplitr; · iexact HIp
    isplitl [HO]; · iexact HO
    isplitl [HtP]; · iexact HtP
    isplitl [HgP]; · rw [payload_bar]; iexact HgP
    iexact HRp
  iintro HO
  unfold O₁
  iapply (Rounds.wp_signal 𝒱₀ ER (Rd P) (c : Thread nD τ) none (dst := (nxt c : Thread nD τ)) (κ := K (nxt c, none))
      (d := false) (by rw [duties_bar]; exact Finset.mem_univ _) ((amount_bar P (nxt c) false).trans (by decide)) () (Os c 0) rfl)
    $$ [HO HtN HgN]
  · isplitr; · iexact HIn
    isplitl [HO]; · iexact HO
    isplitl [HtN]; · iexact HtN
    isplitl [HgN]; · rw [payload_bar]; iexact HgN
    iexact HRn
  iintro HO
  iapply (Rounds.wp_wait_rest_token 𝒱₀ ER (Rd P) (c : Thread nD τ) none (κ := K (c, none))
      (wpE_semWait_eq 𝒱₀ (c : Thread nD τ) none Set.univ) (Set.mem_univ _) () (O := Os c 0) (W := W) (R := 0) (m := 0) (T := ∅)
      (by rw [expect_bar]; decide)) $$ [HcB HO HatB]
  · isplitr; · iexact HIc
    isplitl [HcB]; · iexact HcB
    isplitl [HO]; · iexact HO
    isplitr; · iapply (mayWait_Os c 0 1 (.reg barS) (le_of_eq (lv_bar c)) (fun k _ => by omega)); iexact Hlev
    iexact HatB
  iintro ⟨HO, HatB, -, Hpay⟩
  ihave Hp := (Entails.of_eq (rest_bar P c)) $$ Hpay
  imod (Rounds.cell_close ER (Rd P) (Set.mem_univ (K (c, none))) (fun h => h) (R := 0 + 1) (duties_later P _)) $$ [HatB] with Hz
  · isplitr; · iexact HIc
    iexact HatB
  iapply (ldX0 P K c xs rs is es ws (semVal (barCell c) 0) g (ldR P K c xs rs is es ws (semVal (barCell c) 0) g
    (ldI P K c xs rs is es ws (semVal (barCell c) 0) g (fin ⟨rfl, rfl, rfl⟩))))
  iapply (st_intro P K c (Rb c xs rs is es ws (semVal (barCell c) 0) g))
  isplitl [HR Hz]
  · unfold Rb
    icases HR with ⟨H1, H2, H3, H4, H5, H6, -⟩
    isplitl [H1]; · iexact H1
    isplitl [H2]; · iexact H2
    isplitl [H3]; · iexact H3
    isplitl [H4]; · iexact H4
    isplitl [H5]; · iexact H5
    isplitl [H6]; · iexact H6
    iexact Hz
  isplitr; · iexact HI
  isplitl [HO]; · unfold owesE; iexists _; iexact HO
  isplitl [Htok]; · iexact Htok
  isplitl [Hp]; · iexact Hp
  isplitl [Hat]; · iexact Hat
  isplitl [Hcr]; · iexact Hcr
  iexact Ht

end Cert.Moe
-- ==== Proof.Scatter.lean ====
/-
# `Scatter`: the windows of the body that send, receive and accumulate tiles
-/
module

public import proofs.«01_k».proof.Proof.Walk
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 0
local notation "𝕄" => MT nD τ sig Unit (Elt F) ℕ UU ℕ

variable (P : Dev nD → Fin 4 → FVec F S512x1024 .bf16) (K : Dev nD × CI → ℕ) (R : sProp (MT nD τ sig Unit (Elt F) ℕ UU ℕ)) (c : Dev nD)

/-- Windows 5, 6 of the body: send, send, send. -/
theorem part_5_6 :
    (∀ v5 v7 v120 v123, St P K R c 1 1 0 0 0 0 ⊢ run c (app (k0_part5 (F := F)) c v5 v7 v120 v123) fun _ => St P K R c 1 4 0 0 0 0) ∧
    (∀ v5 v123, St P K R c 1 4 0 0 0 0 ⊢ run c (app (k0_part6 (F := F)) c v5 v123) fun _ => St P K R c 1 7 0 0 0 0) := by
  refine ⟨?_, ?_⟩ <;> intros <;>
    simp only [k0_part5_eq_skeleton, k0_part5_skel, k0_part6_eq_skeleton, k0_part6_skel, Prog.lift, Prog.bind_op, Prog.bind_ret, Prog.pure_eq_ret]
  all_goals
    refine sndT ?_
    refine sndT ?_
    refine sndT ?_
    exact fin'

/-- Windows 9, 19 of the body: slot, tile, sum, send, receive, tile, slot. -/
theorem part_9_19 :
    (∀ v7 v260, St P K R c 3 8 1 0 0 0 ⊢ run c (app (k0_part9 (F := F)) c v7 v260 (k0_pay16 (Pt P 8 c))) fun x => iprop(⌜x = k0_pay18 (Pt P 9 c) (slotV (S P 1 c))⌝ ∗ St P K R c 3 9 2 1 0 0)) ∧
    (∀ v7 v493, St P K R c 4 18 11 10 0 0 ⊢ run c (app (k0_part19 (F := F)) c v7 v493 (k0_pay30 (Pt P 18 c))) fun x => iprop(⌜x = k0_pay32 (Pt P 19 c) (slotV (S P 11 c))⌝ ∗ St P K R c 4 19 12 11 0 0)) := by
  refine ⟨?_, ?_⟩ <;> intros <;>
    simp only [k0_part9_eq_skeleton, k0_part9_skel, k0_part19_eq_skeleton, k0_part19_skel, Prog.lift, Prog.bind_op, Prog.bind_ret, Prog.pure_eq_ret]
  all_goals
    refine ldA ?_
    refine ldT ?_
    refine stA ?_
    refine sndT ?_
    refine rcv ?_
    refine ldT ?_
    refine ldA ?_
    exact fin rfl

/-- Window 10 of the body: tile, sum, send, receive, tile, slot, tile. -/
theorem part_10 :
    (∀ v7 v260, St P K R c 3 9 2 1 0 0 ⊢ run c (app (k0_part10 (F := F)) c v7 v260 (k0_pay18 (Pt P 9 c) (slotV (S P 1 c)))) fun x => iprop(⌜x = k0_pay20 (Pt P 10 c) (slotV (S P 2 c))⌝ ∗ St P K R c 3 10 3 2 0 0)) := by
  intros
  simp only [k0_part10_eq_skeleton, k0_part10_skel, Prog.lift, Prog.bind_op, Prog.bind_ret, Prog.pure_eq_ret]
  refine ldT ?_
  refine stA ?_
  refine sndT ?_
  refine rcv ?_
  refine ldT ?_
  refine ldA ?_
  refine ldT ?_
  exact fin rfl

/-- Window 11 of the body: sum, send, receive, tile, slot, tile, sum. -/
theorem part_11 :
    (∀ v7 v260, St P K R c 3 10 3 2 0 0 ⊢ run c (app (k0_part11 (F := F)) c v7 v260 (k0_pay20 (Pt P 10 c) (slotV (S P 2 c)))) fun _ => St P K R c 3 11 4 4 0 0) := by
  intros
  simp only [k0_part11_eq_skeleton, k0_part11_skel, Prog.lift, Prog.bind_op, Prog.bind_ret, Prog.pure_eq_ret]
  refine stA ?_
  refine sndT ?_
  refine rcv ?_
  refine ldT ?_
  refine ldA ?_
  refine ldT ?_
  refine stA ?_
  exact fin'

/-- Windows 12, 13, 21, 22, 23, 24, 25 of the body: send, receive, tile, slot, tile, sum. -/
theorem part_12_13_21_22_23_24_25 :
    (∀ v5 v7 v263, St P K R c 3 11 4 4 0 0 ⊢ run c (app (k0_part12 (F := F)) c v5 v7 v263) fun _ => St P K R c 3 12 5 5 0 0) ∧
    (∀ v5 v263, St P K R c 3 12 5 5 0 0 ⊢ run c (app (k0_part13 (F := F)) c v5 v263) fun _ => St P K R c 3 13 6 6 0 0) ∧
    (∀ v5 v496, St P K R c 4 20 13 13 0 0 ⊢ run c (app (k0_part21 (F := F)) c v5 v496) fun _ => St P K R c 4 21 14 14 0 0) ∧
    (∀ v5 v496 v638, St P K R c 4 21 14 14 0 0 ⊢ run c (app (k0_part22 (F := F)) c v5 v496 v638) fun _ => St P K R c 4 22 15 15 0 0) ∧
    (∀ v5 v496, St P K R c 4 22 15 15 0 0 ⊢ run c (app (k0_part23 (F := F)) c v5 v496) fun _ => St P K R c 4 23 16 16 0 0) ∧
    (∀ v2 v7, St P K R c 4 23 16 16 0 0 ⊢ run c (app (k0_part24 (F := F)) c v2 v7) fun _ => St P K R c 4 24 17 17 0 0) ∧
    (∀ v7 v699, St P K R c 4 24 17 17 0 0 ⊢ run c (app (k0_part25 (F := F)) c v7 v699) fun _ => St P K R c 4 25 18 18 0 0) := by
  refine ⟨?_, ?_, ?_, ?_, ?_, ?_, ?_⟩ <;> intros <;>
    simp only [k0_part12_eq_skeleton, k0_part12_skel, k0_part13_eq_skeleton, k0_part13_skel, k0_part21_eq_skeleton, k0_part21_skel, k0_part22_eq_skeleton, k0_part22_skel, k0_part23_eq_skeleton, k0_part23_skel, k0_part24_eq_skeleton, k0_part24_skel, k0_part25_eq_skeleton, k0_part25_skel, Prog.lift, Prog.bind_op, Prog.bind_ret, Prog.pure_eq_ret]
  all_goals
    refine sndT ?_
    refine rcv ?_
    refine ldT ?_
    refine ldA ?_
    refine ldT ?_
    refine stA ?_
    exact fin'

/-- Windows 14, 26 of the body: send, receive, tile, slot, tile, sum, send. -/
theorem part_14_26 :
    (∀ v5 v263, St P K R c 3 13 6 6 0 0 ⊢ run c (app (k0_part14 (F := F)) c v5 v263) fun _ => St P K R c 3 15 7 7 0 0) ∧
    (∀ v7 v699, St P K R c 4 25 18 18 0 0 ⊢ run c (app (k0_part26 (F := F)) c v7 v699) fun _ => St P K R c 4 27 19 19 0 0) := by
  refine ⟨?_, ?_⟩ <;> intros <;>
    simp only [k0_part14_eq_skeleton, k0_part14_skel, k0_part26_eq_skeleton, k0_part26_skel, Prog.lift, Prog.bind_op, Prog.bind_ret, Prog.pure_eq_ret]
  all_goals
    refine sndT ?_
    refine rcv ?_
    refine ldT ?_
    refine ldA ?_
    refine ldT ?_
    refine stA ?_
    refine sndT ?_
    exact fin'

/-- Windows 15, 27, 28, 29 of the body: receive, tile, slot, tile, sum, send. -/
theorem part_15_27_28_29 :
    (∀ v2 v5 v263, St P K R c 3 15 7 7 0 0 ⊢ run c (app (k0_part15 (F := F)) c v2 v5 v263) fun _ => St P K R c 3 16 8 8 0 0) ∧
    (∀ v5 v7 v699, St P K R c 4 27 19 19 0 0 ⊢ run c (app (k0_part27 (F := F)) c v5 v7 v699) fun _ => St P K R c 4 28 20 20 0 0) ∧
    (∀ v5 v702 v803, St P K R c 4 28 20 20 0 0 ⊢ run c (app (k0_part28 (F := F)) c v5 v702 v803) fun _ => St P K R c 4 29 21 21 0 0) ∧
    (∀ v5 v702, St P K R c 4 29 21 21 0 0 ⊢ run c (app (k0_part29 (F := F)) c v5 v702) fun _ => St P K R c 4 30 22 22 0 0) := by
  refine ⟨?_, ?_, ?_, ?_⟩ <;> intros <;>
    simp only [k0_part15_eq_skeleton, k0_part15_skel, k0_part27_eq_skeleton, k0_part27_skel, k0_part28_eq_skeleton, k0_part28_skel, k0_part29_eq_skeleton, k0_part29_skel, Prog.lift, Prog.bind_op, Prog.bind_ret, Prog.pure_eq_ret]
  all_goals
    refine rcv ?_
    refine ldT ?_
    refine ldA ?_
    refine ldT ?_
    refine stA ?_
    refine sndT ?_
    exact fin'

/-- Windows 17, 31 of the body: tile, slot, tile, sum, send, receive. -/
theorem part_17_31 :
    (∀ v7 v493 c512_i32_367, St P K R c 4 16 9 8 0 0 ⊢ run c (app (k0_part17 (F := F)) c v7 v493 c512_i32_367) fun _ => St P K R c 4 17 10 9 0 0) ∧
    (∀ v5 v7, St P K R c 4 31 24 23 0 0 ⊢ run c (app (k0_part31 (F := F)) c v5 v7) fun _ => St P K R c 4 32 25 24 0 0) := by
  refine ⟨?_, ?_⟩ <;> intros <;>
    simp only [k0_part17_eq_skeleton, k0_part17_skel, k0_part31_eq_skeleton, k0_part31_skel, Prog.lift, Prog.bind_op, Prog.bind_ret, Prog.pure_eq_ret]
  all_goals
    refine ldT ?_
    refine ldA ?_
    refine ldT ?_
    refine stA ?_
    refine sndT ?_
    refine rcv ?_
    exact fin'

/-- Window 18 of the body: tile, slot, tile, sum, send, receive, tile. -/
theorem part_18 :
    (∀ v7 v493, St P K R c 4 17 10 9 0 0 ⊢ run c (app (k0_part18 (F := F)) c v7 v493) fun x => iprop(⌜x = k0_pay30 (Pt P 18 c)⌝ ∗ St P K R c 4 18 11 10 0 0)) := by
  intros
  simp only [k0_part18_eq_skeleton, k0_part18_skel, Prog.lift, Prog.bind_op, Prog.bind_ret, Prog.pure_eq_ret]
  refine ldT ?_
  refine ldA ?_
  refine ldT ?_
  refine stA ?_
  refine sndT ?_
  refine rcv ?_
  refine ldT ?_
  exact fin rfl

/-- Window 20 of the body: tile, sum, send, receive, tile, slot, tile, sum. -/
theorem part_20 :
    (∀ v5 v7 v496, St P K R c 4 19 12 11 0 0 ⊢ run c (app (k0_part20 (F := F)) c v5 v7 v496 (k0_pay32 (Pt P 19 c) (slotV (S P 11 c)))) fun _ => St P K R c 4 20 13 13 0 0) := by
  intros
  simp only [k0_part20_eq_skeleton, k0_part20_skel, Prog.lift, Prog.bind_op, Prog.bind_ret, Prog.pure_eq_ret]
  refine ldT ?_
  refine stA ?_
  refine sndT ?_
  refine rcv ?_
  refine ldT ?_
  refine ldA ?_
  refine ldT ?_
  refine stA ?_
  exact fin'

/-- Window 30 of the body: receive, tile, slot, tile, sum, send, receive. -/
theorem part_30 :
    (∀ v5 v702, St P K R c 4 30 22 22 0 0 ⊢ run c (app (k0_part30 (F := F)) c v5 v702) fun _ => St P K R c 4 31 24 23 0 0) := by
  intros
  simp only [k0_part30_eq_skeleton, k0_part30_skel, Prog.lift, Prog.bind_op, Prog.bind_ret, Prog.pure_eq_ret]
  refine rcv ?_
  refine ldT ?_
  refine ldA ?_
  refine ldT ?_
  refine stA ?_
  refine sndT ?_
  refine rcv ?_
  exact fin'

end Cert.Moe
-- ==== Proof.Gather.lean ====
/-
# `Gather`: the windows of the body that pass finished tiles on
-/
module

public import proofs.«01_k».proof.Proof.Walk
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 0
local notation "𝕄" => MT nD τ sig Unit (Elt F) ℕ UU ℕ

variable (P : Dev nD → Fin 4 → FVec F S512x1024 .bf16) (K : Dev nD × CI → ℕ) (R : sProp (MT nD τ sig Unit (Elt F) ℕ UU ℕ)) (c : Dev nD)

/-- Windows 32, 35, 37, 41 of the body: send on, receive, send on. -/
theorem part_32_35_37_41 :
    (∀ v2 v7, St P K R c 4 32 25 24 0 0 ⊢ run c (app (k0_part32 (F := F)) c v2 v7) fun _ => St P K R c 4 34 26 24 0 0) ∧
    (∀ v2 v5, St P K R c 4 36 29 24 0 0 ⊢ run c (app (k0_part35 (F := F)) c v2 v5) fun _ => St P K R c 4 38 30 24 0 0) ∧
    (∀ v2 v7, St P K R c 4 39 32 24 0 0 ⊢ run c (app (k0_part37 (F := F)) c v2 v7) fun _ => St P K R c 4 41 33 24 0 0) ∧
    (∀ v2 v5, St P K R c 4 44 37 24 0 0 ⊢ run c (app (k0_part41 (F := F)) c v2 v5) fun _ => St P K R c 4 46 38 24 0 0) := by
  refine ⟨?_, ?_, ?_, ?_⟩ <;> intros <;>
    simp only [k0_part32_eq_skeleton, k0_part32_skel, k0_part35_eq_skeleton, k0_part35_skel, k0_part37_eq_skeleton, k0_part37_skel, k0_part41_eq_skeleton, k0_part41_skel, Prog.lift, Prog.bind_op, Prog.bind_ret, Prog.pure_eq_ret]
  all_goals
    refine sndS ?_
    refine rcv ?_
    refine sndS ?_
    exact fin'

/-- Windows 33, 36, 39, 42 of the body: receive, send on, receive. -/
theorem part_33_36_39_42 :
    (∀ v2 v7 v941 c4_i32_788, St P K R c 4 34 26 24 0 0 ⊢ run c (app (k0_part33 (F := F)) c v2 v7 v941 c4_i32_788) fun _ => St P K R c 4 35 28 24 0 0) ∧
    (∀ v2 v5, St P K R c 4 38 30 24 0 0 ⊢ run c (app (k0_part36 (F := F)) c v2 v5) fun _ => St P K R c 4 39 32 24 0 0) ∧
    (∀ v2 v7, St P K R c 4 42 34 24 0 0 ⊢ run c (app (k0_part39 (F := F)) c v2 v7) fun _ => St P K R c 4 43 36 24 0 0) ∧
    (∀ v2 v5 c1_i32_1045, St P K R c 4 46 38 24 0 0 ⊢ run c (app (k0_part42 (F := F)) c v2 v5 c1_i32_1045) fun _ => St P K R c 4 47 40 24 0 0) := by
  refine ⟨?_, ?_, ?_, ?_⟩ <;> intros <;>
    simp only [k0_part33_eq_skeleton, k0_part33_skel, k0_part36_eq_skeleton, k0_part36_skel, k0_part39_eq_skeleton, k0_part39_skel, k0_part42_eq_skeleton, k0_part42_skel, Prog.lift, Prog.bind_op, Prog.bind_ret, Prog.pure_eq_ret]
  all_goals
    refine rcv ?_
    refine sndS ?_
    refine rcv ?_
    exact fin'

/-- Windows 34, 40, 43 of the body: send on, receive. -/
theorem part_34_40_43 :
    (∀ v2 v5 v7, St P K R c 4 35 28 24 0 0 ⊢ run c (app (k0_part34 (F := F)) c v2 v5 v7) fun _ => St P K R c 4 36 29 24 0 0) ∧
    (∀ v2 v5 v7, St P K R c 4 43 36 24 0 0 ⊢ run c (app (k0_part40 (F := F)) c v2 v5 v7) fun _ => St P K R c 4 44 37 24 0 0) ∧
    (∀ v2 v5 v7, St P K R c 4 47 40 24 0 0 ⊢ run c (app (k0_part43 (F := F)) c v2 v5 v7) fun _ => St P K R c 4 48 41 24 0 0) := by
  refine ⟨?_, ?_, ?_⟩ <;> intros <;>
    simp only [k0_part34_eq_skeleton, k0_part34_skel, k0_part40_eq_skeleton, k0_part40_skel, k0_part43_eq_skeleton, k0_part43_skel, Prog.lift, Prog.bind_op, Prog.bind_ret, Prog.pure_eq_ret]
  all_goals
    refine sndS ?_
    refine rcv ?_
    exact fin'

/-- Window 38 of the body: receive, send on. -/
theorem part_38 :
    (∀ v2 v7 c_m1_i32_928, St P K R c 4 41 33 24 0 0 ⊢ run c (app (k0_part38 (F := F)) c v2 v7 c_m1_i32_928) fun _ => St P K R c 4 42 34 24 0 0) := by
  intros
  simp only [k0_part38_eq_skeleton, k0_part38_skel, Prog.lift, Prog.bind_op, Prog.bind_ret, Prog.pure_eq_ret]
  refine rcv ?_
  refine sndS ?_
  exact fin'

/-- Window 44 of the body: receive, receive. -/
theorem part_44 :
    (∀ v2 v7, St P K R c 4 48 41 24 0 0 ⊢ run c (app (k0_part44 (F := F)) v2 v7) fun _ => St P K R c 4 48 43 24 0 0) := by
  intros
  simp only [k0_part44_eq_skeleton, k0_part44_skel, Prog.lift, Prog.bind_op, Prog.bind_ret, Prog.pure_eq_ret]
  refine rcv ?_
  refine rcv ?_
  exact fin'

/-- Window 45 of the body: receive, receive, receive. -/
theorem part_45 :
    (∀ v2 v5, St P K R c 4 48 43 24 0 0 ⊢ run c (app (k0_part45 (F := F)) v2 v5) fun _ => St P K R c 4 48 46 24 0 0) := by
  intros
  simp only [k0_part45_eq_skeleton, k0_part45_skel, Prog.lift, Prog.bind_op, Prog.bind_ret, Prog.pure_eq_ret]
  refine rcv ?_
  refine rcv ?_
  refine rcv ?_
  exact fin'

end Cert.Moe
-- ==== Proof.Finish.lean ====
/-
# `Finish`: the windows of the body that write the gathered tiles and await the sends
-/
module

public import proofs.«01_k».proof.Proof.Walk
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 0
local notation "𝕄" => MT nD τ sig Unit (Elt F) ℕ UU ℕ

variable (P : Dev nD → Fin 4 → FVec F S512x1024 .bf16) (K : Dev nD × CI → ℕ) (R : sProp (MT nD τ sig Unit (Elt F) ℕ UU ℕ)) (c : Dev nD)

/-- Window 46 of the body: receive, receive, slot, tile. -/
theorem part_46 :
    (∀ v2 v5 v922, St P K R c 4 48 46 24 0 0 ⊢ run c (app (k0_part46 (F := F)) c v2 v5 v922) fun x => iprop(⌜x.2.2 = k0_pay46 (slotV (S P 24 c))⌝ ∗ St P K R c 4 48 48 24 0 0)) := by
  intros
  simp only [k0_part46_eq_skeleton, k0_part46_skel, Prog.lift, Prog.bind_op, Prog.bind_ret, Prog.pure_eq_ret]
  refine rcv ?_
  refine rcv ?_
  refine ldQ ?_
  refine ldF fun _ => ?_
  exact fin rfl

/-- Window 47 of the body: write, slot, tile, write, slot, tile, write, slot, tile, write, slot, tile, write. -/
theorem part_47 :
    (∀ v942 v962 v982 v1002, St P K R c 4 48 48 24 0 0 ⊢ run c (app (k0_part47 (F := F)) c v942 v962 v982 v1002 (k0_pay46 (slotV (S P 24 c)))) fun _ => St P K R c 4 48 48 24 5 0) := by
  intros
  simp only [k0_part47_eq_skeleton, k0_part47_skel, Prog.lift, Prog.bind_op, Prog.bind_ret, Prog.pure_eq_ret]
  refine stF ?_
  refine ldQ ?_
  refine ldF fun _ => ?_
  refine stF ?_
  refine ldQ ?_
  refine ldF fun _ => ?_
  refine stF ?_
  refine ldQ ?_
  refine ldF fun _ => ?_
  refine stF ?_
  refine ldQ ?_
  refine ldF fun _ => ?_
  refine stF ?_
  exact fin'

/-- Windows 48, 51 of the body: slot, tile, write, slot, tile, write, slot, tile, write, slot, tile, write, slot. -/
theorem part_48_51 :
    (∀ v1022 v1042 v1062 v1083 v1104, St P K R c 4 48 48 24 5 0 ⊢ run c (app (k0_part48 (F := F)) c v1022 v1042 v1062 v1083 v1104) fun x => iprop(⌜x = k0_pay55 (slotV (S P 33 c))⌝ ∗ St P K R c 4 48 48 24 9 0)) ∧
    (∀ v1263 v1274 v1285 v1296, St P K R c 4 48 48 24 18 0 ⊢ run c (app (k0_part51 (F := F)) c v1263 v1274 v1285 v1296) fun x => iprop(⌜x = k0_pay70 (slotV (S P 46 c))⌝ ∗ St P K R c 4 48 48 24 22 0)) := by
  refine ⟨?_, ?_⟩ <;> intros <;>
    simp only [k0_part48_eq_skeleton, k0_part48_skel, k0_part51_eq_skeleton, k0_part51_skel, Prog.lift, Prog.bind_op, Prog.bind_ret, Prog.pure_eq_ret]
  all_goals
    refine ldQ ?_
    refine ldF fun _ => ?_
    refine stF ?_
    refine ldQ ?_
    refine ldF fun _ => ?_
    refine stF ?_
    refine ldQ ?_
    refine ldF fun _ => ?_
    refine stF ?_
    refine ldQ ?_
    refine ldF fun _ => ?_
    refine stF ?_
    refine ldQ ?_
    exact fin rfl

/-- Window 49 of the body: tile, write, slot, tile, write, slot, tile, write, slot, tile, write, slot. -/
theorem part_49 :
    (∀ v1125 v1146 v1167 v1188, St P K R c 4 48 48 24 9 0 ⊢ run c (app (k0_part49 (F := F)) c v1125 v1146 v1167 v1188 (k0_pay55 (slotV (S P 33 c)))) fun x => iprop(⌜x = k0_pay60 (slotV (S P 37 c))⌝ ∗ St P K R c 4 48 48 24 13 0)) := by
  intros
  simp only [k0_part49_eq_skeleton, k0_part49_skel, Prog.lift, Prog.bind_op, Prog.bind_ret, Prog.pure_eq_ret]
  refine ldF fun _ => ?_
  refine stF ?_
  refine ldQ ?_
  refine ldF fun _ => ?_
  refine stF ?_
  refine ldQ ?_
  refine ldF fun _ => ?_
  refine stF ?_
  refine ldQ ?_
  refine ldF fun _ => ?_
  refine stF ?_
  refine ldQ ?_
  exact fin rfl

/-- Window 50 of the body: tile, write, slot, tile, write, slot, tile, write, slot, tile, write, slot, tile, write. -/
theorem part_50 :
    (∀ v1209 v1230 v1241 v1252, St P K R c 4 48 48 24 13 0 ⊢ run c (app (k0_part50 (F := F)) c v1209 v1230 v1241 v1252 (k0_pay60 (slotV (S P 37 c)))) fun _ => St P K R c 4 48 48 24 18 0) := by
  intros
  simp only [k0_part50_eq_skeleton, k0_part50_skel, Prog.lift, Prog.bind_op, Prog.bind_ret, Prog.pure_eq_ret]
  refine ldF fun _ => ?_
  refine stF ?_
  refine ldQ ?_
  refine ldF fun _ => ?_
  refine stF ?_
  refine ldQ ?_
  refine ldF fun _ => ?_
  refine stF ?_
  refine ldQ ?_
  refine ldF fun _ => ?_
  refine stF ?_
  refine ldQ ?_
  refine ldF fun _ => ?_
  refine stF ?_
  exact fin'

/-- Window 52 of the body: tile, write, slot, tile, write, await a send, await a send. -/
theorem part_52 :
    (∀ v1307 v1318, St P K R c 4 48 48 24 22 0 ⊢ run c (app (k0_part52 (F := F)) c v1307 v1318 (k0_pay70 (slotV (S P 46 c)))) fun _ => St P K R c 4 48 48 24 24 2) := by
  intros
  simp only [k0_part52_eq_skeleton, k0_part52_skel, Prog.lift, Prog.bind_op, Prog.bind_ret, Prog.pure_eq_ret]
  refine ldF fun _ => ?_
  refine stF ?_
  refine ldQ ?_
  refine ldF fun _ => ?_
  refine stF ?_
  refine snt ?_
  refine snt ?_
  exact fin'

/-- Windows 53, 54, 56, 58 of the body: await a send, await a send, await a send, await a send, await a send. -/
theorem part_53_54_56_58 :
    (St P K R c 4 48 48 24 24 2 ⊢ run c (app (k0_part53 (F := F)) c) fun _ => St P K R c 4 48 48 24 24 7) ∧
    (St P K R c 4 48 48 24 24 7 ⊢ run c (app (k0_part54 (F := F)) c) fun _ => St P K R c 4 48 48 24 24 12) ∧
    (St P K R c 4 48 48 24 24 16 ⊢ run c (app (k0_part56 (F := F)) c) fun _ => St P K R c 4 48 48 24 24 21) ∧
    (St P K R c 4 48 48 24 24 25 ⊢ run c (app (k0_part58 (F := F)) c) fun _ => St P K R c 4 48 48 24 24 30) := by
  refine ⟨?_, ?_, ?_, ?_⟩ <;> intros <;>
    simp only [k0_part53_eq_skeleton, k0_part53_skel, k0_part54_eq_skeleton, k0_part54_skel, k0_part56_eq_skeleton, k0_part56_skel, k0_part58_eq_skeleton, k0_part58_skel, Prog.lift, Prog.bind_op, Prog.bind_ret, Prog.pure_eq_ret]
  all_goals
    refine snt ?_
    refine snt ?_
    refine snt ?_
    refine snt ?_
    refine snt ?_
    exact fin'

/-- Windows 55, 57, 59, 60, 61 of the body: await a send, await a send, await a send, await a send. -/
theorem part_55_57_59_60_61 :
    (St P K R c 4 48 48 24 24 12 ⊢ run c (app (k0_part55 (F := F)) c) fun _ => St P K R c 4 48 48 24 24 16) ∧
    (St P K R c 4 48 48 24 24 21 ⊢ run c (app (k0_part57 (F := F)) c) fun _ => St P K R c 4 48 48 24 24 25) ∧
    (St P K R c 4 48 48 24 24 30 ⊢ run c (app (k0_part59 (F := F)) c) fun _ => St P K R c 4 48 48 24 24 34) ∧
    (St P K R c 4 48 48 24 24 34 ⊢ run c (app (k0_part60 (F := F))) fun _ => St P K R c 4 48 48 24 24 38) ∧
    (St P K R c 4 48 48 24 24 38 ⊢ run c (app (k0_part61 (F := F))) fun _ => St P K R c 4 48 48 24 24 42) := by
  refine ⟨?_, ?_, ?_, ?_, ?_⟩ <;> intros <;>
    simp only [k0_part55_eq_skeleton, k0_part55_skel, k0_part57_eq_skeleton, k0_part57_skel, k0_part59_eq_skeleton, k0_part59_skel, k0_part60_eq_skeleton, k0_part60_skel, k0_part61_eq_skeleton, k0_part61_skel, Prog.lift, Prog.bind_op, Prog.bind_ret, Prog.pure_eq_ret]
  all_goals
    refine snt ?_
    refine snt ?_
    refine snt ?_
    refine snt ?_
    exact fin'

/-- Window 62 of the body: await a send, await a send, await a send. -/
theorem part_62 :
    (St P K R c 4 48 48 24 24 42 ⊢ run c (app (k0_part62 (F := F))) fun _ => St P K R c 4 48 48 24 24 45) := by
  intros
  simp only [k0_part62_eq_skeleton, k0_part62_skel, Prog.lift, Prog.bind_op, Prog.bind_ret, Prog.pure_eq_ret]
  refine snt ?_
  refine snt ?_
  refine snt ?_
  exact fin'

end Cert.Moe
-- ==== Proof.Chain.lean ====
/-
# `Walk through the body`: the windows in order
-/
module

public import proofs.«01_k».proof.Proof.Head
public import proofs.«01_k».proof.Proof.Scatter
public import proofs.«01_k».proof.Proof.Gather
public import proofs.«01_k».proof.Proof.Finish
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 1000000
local notation "𝕄" => MT nD τ sig Unit (Elt F) ℕ UU ℕ

variable (P : Dev nD → Fin 4 → FVec F S512x1024 .bf16) (K : Dev nD × CI → ℕ) (c : Dev nD)
variable (xs : Vec F S2048x512 .bf16) (rs : Vec F S512x16 .bf16) (is : Vec F S2048x1 .i32) (es : Vec F S4x512x1024 .bf16) (ws : Vec F S512x1024 .bf16)
variable (hP : ∀ ch, P c ch = part xs rs is es ws c ch)
include hP

/-- Windows 1 to 60. -/
theorem part_63 (g : Vec F S2048x4 .f32) :
    iprop(Rb c xs rs is es ws iprop(emp) g ∗ start P K c) ⊢ run c (app (k0_part63 (F := F))) fun _ =>
      St P K (Rb c xs rs is es ws (semVal (barCell c) 0) (gates xs rs is c)) c 4 48 48 24 24 38 := by
  simp only [app, k0_part63]
  refine seqZ (part_1 P K c xs rs is es ws g) ?_
  rintro ⟨d0, v2, v5, v7, v26, v27, v31⟩ ⟨hd, h2, h3⟩
  dsimp only at hd h2 h3
  have hd' := hd.symm
  subst hd' h2
  simp only [PSigma.mk.injEq, heq_eq_eq] at h3
  obtain ⟨rfl, rfl, rfl⟩ := h3
  refine seqZ (part_2 P K c xs rs is es ws _ g) ?_
  rintro _ rfl
  refine seqZ (part_3 P K c xs rs is es ws _ g) ?_
  rintro ⟨v90, v94, v97, v100, v101⟩ ⟨h1, h2⟩
  dsimp only at h1 h2
  subst h1
  simp only [PSigma.mk.injEq, heq_eq_eq] at h2
  obtain ⟨rfl, rfl, rfl⟩ := h2
  refine seq (part_4 P K c xs rs is es ws _ hP _ _ _) fun ⟨v120, v123⟩ => ?_
  refine seq ((part_5_6 P K _ c).1 _ _ _ _) fun _ => ?_
  refine seq ((part_5_6 P K _ c).2 _ _) fun _ => ?_
  refine seqZ (part_7 P K c xs rs is es ws _ hP _) ?_
  rintro ⟨v234, v237⟩ hv; dsimp only at hv; subst hv
  refine seqZ (part_8 P K c xs rs is es ws _ hP _ _ _) ?_
  rintro ⟨v260, v263, v274⟩ hv; dsimp only at hv; subst hv
  refine seqZ ((part_9_19 P K _ c).1 _ _) ?_
  rintro v302 rfl
  refine seqZ (part_10 P K _ c _ _) ?_
  rintro v327 rfl
  refine seq (part_11 P K _ c _ _) fun _ => ?_
  refine seq ((part_12_13_21_22_23_24_25 P K _ c).1 _ _ _) fun _ => ?_
  refine seq ((part_12_13_21_22_23_24_25 P K _ c).2.1 _ _) fun _ => ?_
  refine seq ((part_14_26 P K _ c).1 _ _) fun _ => ?_
  refine seq ((part_15_27_28_29 P K _ c).1 _ _ _) fun ⟨v465, c4_i32_348⟩ => ?_
  refine seq (part_16 P K c xs rs is es ws _ hP _ _ _ _) fun ⟨v493, v496, w16⟩ => ?_
  refine seq ((part_17_31 P K _ c).1 _ _ _) fun _ => ?_
  refine seqZ (part_18 P K _ c _ _) ?_
  rintro v557 rfl
  refine seqZ ((part_9_19 P K _ c).2 _ _) ?_
  rintro v585 rfl
  refine seq (part_20 P K _ c _ _ _) fun _ => ?_
  refine seq ((part_12_13_21_22_23_24_25 P K _ c).2.2.1 _ _) fun v638 => ?_
  refine seq ((part_12_13_21_22_23_24_25 P K _ c).2.2.2.1 _ _ _) fun _ => ?_
  refine seq ((part_12_13_21_22_23_24_25 P K _ c).2.2.2.2.1 _ _) fun _ => ?_
  refine seq ((part_12_13_21_22_23_24_25 P K _ c).2.2.2.2.2.1 _ _) fun ⟨v699, v702⟩ => ?_
  refine seq ((part_12_13_21_22_23_24_25 P K _ c).2.2.2.2.2.2 _ _) fun _ => ?_
  refine seq ((part_14_26 P K _ c).2 _ _) fun _ => ?_
  refine seq ((part_15_27_28_29 P K _ c).2.1 _ _ _) fun v803 => ?_
  refine seq ((part_15_27_28_29 P K _ c).2.2.1 _ _ _) fun _ => ?_
  refine seq ((part_15_27_28_29 P K _ c).2.2.2 _ _) fun _ => ?_
  refine seq (part_30 P K _ c _ _) fun _ => ?_
  refine seq ((part_17_31 P K _ c).2 _ _) fun _ => ?_
  refine seq ((part_32_35_37_41 P K _ c).1 _ _) fun ⟨v922, v941, c4_i32_788⟩ => ?_
  refine seq ((part_33_36_39_42 P K _ c).1 _ _ _ _) fun ⟨v942, v962⟩ => ?_
  refine seq ((part_34_40_43 P K _ c).1 _ _ _) fun v982 => ?_
  refine seq ((part_32_35_37_41 P K _ c).2.1 _ _) fun ⟨v1002, v1022⟩ => ?_
  refine seq ((part_33_36_39_42 P K _ c).2.1 _ _) fun v1042 => ?_
  refine seq ((part_32_35_37_41 P K _ c).2.2.1 _ _) fun ⟨v1062, c_m1_i32_928⟩ => ?_
  refine seq (part_38 P K _ c _ _ _) fun ⟨v1083, v1104⟩ => ?_
  refine seq ((part_33_36_39_42 P K _ c).2.2.1 _ _) fun v1125 => ?_
  refine seq ((part_34_40_43 P K _ c).2.1 _ _ _) fun v1146 => ?_
  refine seq ((part_32_35_37_41 P K _ c).2.2.2 _ _) fun ⟨v1167, v1188, c1_i32_1045⟩ => ?_
  refine seq ((part_33_36_39_42 P K _ c).2.2.2 _ _ _) fun v1209 => ?_
  refine seq ((part_34_40_43 P K _ c).2.2 _ _ _) fun ⟨v1230, v1241⟩ => ?_
  refine seq (part_44 P K _ c _ _) fun ⟨v1252, v1263⟩ => ?_
  refine seq (part_45 P K _ c _ _) fun ⟨v1274, v1285, v1296⟩ => ?_
  refine seqZ (part_46 P K _ c _ _ _) ?_
  rintro ⟨v1307, v1318, k0_w25⟩ hv; dsimp only at hv; subst hv
  refine seq (part_47 P K _ c _ _ _ _) fun _ => ?_
  refine seqZ ((part_48_51 P K _ c).1 _ _ _ _ _) ?_
  rintro v1365 rfl
  refine seqZ (part_49 P K _ c _ _ _ _) ?_
  rintro v1385 rfl
  refine seq (part_50 P K _ c _ _ _ _) fun _ => ?_
  refine seqZ ((part_48_51 P K _ c).2 _ _ _ _) ?_
  rintro v1430 rfl
  refine seq (part_52 P K _ c _ _) fun _ => ?_
  refine seq (part_53_54_56_58 P K _ c).1 fun _ => ?_
  refine seq (part_53_54_56_58 P K _ c).2.1 fun _ => ?_
  refine seq (part_55_57_59_60_61 P K _ c).1 fun _ => ?_
  refine seq (part_53_54_56_58 P K _ c).2.2.1 fun _ => ?_
  refine seq (part_55_57_59_60_61 P K _ c).2.1 fun _ => ?_
  refine seq (part_53_54_56_58 P K _ c).2.2.2 fun _ => ?_
  refine seq (part_55_57_59_60_61 P K _ c).2.2.1 fun _ => ?_
  refine seq (part_55_57_59_60_61 P K _ c).2.2.2.1 fun _ => ?_
  exact fin'

set_option maxRecDepth 65536 in
/-- The body: from the operands and the launch's resources to the state with every counter at its end. -/
theorem walk (g : Vec F S2048x4 .f32) :
    iprop(Rb c xs rs is es ws iprop(emp) g ∗ start P K c) ⊢ run c (app (cc0_body (F := F))) fun _ =>
      St P K (Rb c xs rs is es ws (semVal (barCell c) 0) (gates xs rs is c)) c 4 48 48 24 24 48 := by
  simp only [app, cc0_body_eq_skeleton, cc0_body_skel]
  refine seq (part_63 P K c xs rs is es ws hP g) fun _ => ?_
  refine seq (part_55_57_59_60_61 P K _ c).2.2.2.2 fun _ => ?_
  refine seq (part_62 P K _ c) fun _ => ?_
  simp only [Prog.lift, Prog.bind_op, Prog.bind_ret, Prog.pure_eq_ret]
  refine snt ?_
  refine snt ?_
  refine snt ?_
  exact fin'

end Cert.Moe
-- ==== Proof.Ends.lean ====
/-
# `Ends`: the buffers before and after the body

The output is its 32 tiles and the communication buffer its 48 slots. At the end every tile of every device holds the sum
that went round the ring for its chunk and lane: the result is the same on all devices.
-/
module

public import proofs.«01_k».proof.Proof.Head
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 1000000
local notation "𝕄" => MT nD τ sig Unit (Elt F) ℕ UU ℕ

section
variable (P : Dev nD → Fin 4 → FVec F S512x1024 .bf16)

set_option backward.proofsInPublic true in
/-- The device on which lane `l`'s sum for chunk `ch` is complete at hop 3. -/
def dv (l : ℕ) (ch : Fin 4) : Dev nD := ⟨(ch.val + (if right l then 3 else 1)) % 4, Nat.mod_lt _ (by decide)⟩

/-- The sum for chunk `ch`, lane `l`. -/
def tot (ch : Fin 4) (l : ℕ) : FVec F S512x128 .bf16 := Ah P l 3 (dv l ch)

/-- What tile `k` holds at the end. -/
def last (k : ℕ) (c : Dev nD) : FVec F S512x128 .bf16 := if k < 24 then S P (k + 24) c else A P k c

theorem pv_dv0 : ∀ (c : Dev nD) (k : Fin 32), 24 ≤ k.val → c = dv (k.val % 8) (org k.val c) := by decide +kernel
theorem pv_dv1 : ∀ (c : Dev nD) (k : Fin 32), k.val < 8 → pv (k.val % 8) c = dv (k.val % 8) (org k.val c) := by decide +kernel
theorem pv_dv2 : ∀ (c : Dev nD) (k : Fin 32), 8 ≤ k.val → k.val < 16 → pv (k.val % 8) (pv (k.val % 8) c) = dv (k.val % 8) (org k.val c) := by decide +kernel
theorem pv_dv3 : ∀ (c : Dev nD) (k : Fin 32), 16 ≤ k.val → k.val < 24 → pv (k.val % 8) (pv (k.val % 8) (pv (k.val % 8) c)) = dv (k.val % 8) (org k.val c) := by decide +kernel

/-- Every tile ends at the sum of its chunk and lane. -/
theorem last_eq (k : Fin 32) (c : Dev nD) : last P k.val c = tot P (org k.val c) (k.val % 8) := by
  have hk := k.isLt
  unfold last tot
  by_cases h : k.val < 24
  · rw [if_pos h]
    unfold S A
    have h2 : (k.val + 24) % 8 = k.val % 8 := by omega
    have hp : pv (k.val + 24) c = pv (k.val % 8) c := by rw [← pv_mod, h2]
    rw [h2, hp]
    obtain h3 | h3 | h3 : k.val < 8 ∨ (8 ≤ k.val ∧ k.val < 16) ∨ (16 ≤ k.val ∧ k.val < 24) := by omega
    · rw [show (k.val + 24) / 8 = 3 by omega, pv_dv1 c k h3]
    · rw [show (k.val + 24) / 8 = 3 + 1 by omega, Ah, if_neg (by decide), pv_dv2 c k h3.1 h3.2]
    · rw [show (k.val + 24) / 8 = 4 + 1 by omega, Ah, if_neg (by decide), Ah, if_neg (by decide), pv_dv3 c k h3.1 h3.2]
  · rw [if_neg h]
    unfold A
    rw [show k.val / 8 = 3 by omega, ← pv_dv0 c k (by omega)]

/-- The result, on every device. -/
def outF : Vec F S2048x1024 .bf16 := fun i =>
  tot P ⟨(i (0 : Fin 2)).val / 512, by have : (i (0 : Fin 2)).val < 2048 := (i (0 : Fin 2)).isLt; omega⟩ ((i (1 : Fin 2)).val / 128)
    (ValueIdx.ix2 (⟨(i (0 : Fin 2)).val % 512, Nat.mod_lt _ (by decide)⟩ : Fin 512) (⟨(i (1 : Fin 2)).val % 128, Nat.mod_lt _ (by decide)⟩ : Fin 128))

theorem outF_tile (k : Fin 32) (c : Dev nD) : (fun j => outF P ((tR c k).emb j)) = last P k.val c := by
  rw [last_eq]
  funext j
  have h0 : (j (0 : Fin 2)).val < 512 := (j (0 : Fin 2)).isLt
  have h1 : (j (1 : Fin 2)).val < 128 := (j (1 : Fin 2)).isLt
  have hc : (org k.val c).val < 4 := (org k.val c).isLt
  have e0 : ((tR c k).emb j (0 : Fin 2)).val = 512 * (org k.val c).val + 1 * (j (0 : Fin 2)).val := rfl
  have e1 : ((tR c k).emb j (1 : Fin 2)).val = 128 * (k.val % 8) + 1 * (j (1 : Fin 2)).val := rfl
  unfold outF
  have a0 : (⟨((tR c k).emb j (0 : Fin 2)).val / 512, by rw [e0]; omega⟩ : Fin 4) = org k.val c := Fin.ext (by show _ / 512 = _; rw [e0]; omega)
  have a1 : ((tR c k).emb j (1 : Fin 2)).val / 128 = k.val % 8 := by rw [e1]; omega
  have a2 : (ValueIdx.ix2 (⟨((tR c k).emb j (0 : Fin 2)).val % 512, Nat.mod_lt _ (by decide)⟩ : Fin 512) (⟨((tR c k).emb j (1 : Fin 2)).val % 128, Nat.mod_lt _ (by decide)⟩ : Fin 128) : S512x128.Idx) = j := by
    refine Eq.trans ?_ (ValueIdx.eq_ix2 (n0 := 512) (n1 := 128) j).symm
    have b0 : ((tR c k).emb j (0 : Fin 2)).val % 512 = (j (0 : Fin 2)).val := by rw [e0]; omega
    have b1 : ((tR c k).emb j (1 : Fin 2)).val % 128 = (j (1 : Fin 2)).val := by rw [e1]; omega
    exact congrArg₂ ValueIdx.ix2 (Fin.ext b0) (Fin.ext b1)
  rw [a0, a1, a2]

variable (c : Dev nD)

/-- The output is its tiles, -/
theorem out_split (f : Vec F S2048x1024 .bf16) : (oL c ↦{fullShare} f) ⊢ (bigSep Finset.univ fun k : Fin 32 => tE (F := F) k.val c : sProp 𝕄) := by
  have h := owns_rects (c : Thread nD τ) oM fullShare (tR c) (fun _ _ => rfl) (tR_disj c) (tR_cover c) f (Val := Elt F) (Ix := Unit) (Name := ℕ) (U := UU) (Lvl := ℕ)
  refine (Entails.of_eq (owns_whole (c : Thread nD τ) cc0_stg5_0 fullShare f).symm).trans (h.trans (fam_mono fun k _ => ?_))
  unfold tE
  iintro H
  iexists _
  iexact H
/-- and the tiles at their last contents are the result. -/
theorem out_join : (bigSep Finset.univ fun k : Fin 32 => ownsTc c (tM k.val c) fullShare (last P k.val c) : sProp 𝕄) ⊢ (oL c ↦{fullShare} (outF P)) := by
  have h := owns_of_rects (c : Thread nD τ) oM fullShare (tR c) (fun _ _ => rfl) (tR_disj c) (tR_cover c) (outF P) (Val := Elt F) (Ix := Unit) (Name := ℕ) (U := UU) (Lvl := ℕ)
  refine BIBase.Entails.trans (fam_mono fun k _ => ?_) (h.trans (Entails.of_eq (owns_whole (c : Thread nD τ) cc0_stg5_0 fullShare (outF P))))
  rw [outF_tile P k c]

/-! ## The communication buffer -/

/-- Plane `k` of the communication buffer. -/
abbrev sR (k : Fin 48) : Rect S48x512x128 := Rect.unit (s := S48x512x128) ![k.val, 0, 0] S1x512x128.size (slot_inb k)

theorem sR_disj (k k' : Fin 48) (h : k ≠ k') : Disjoint (sR k).set (sR k').set := by
  have hv : k.val ≠ k'.val := fun e => h (Fin.ext e)
  refine Rect.disjoint_of_separated _ _ (0 : Fin 3) ?_
  show (1 = 0 ∨ k.val + 1 * (1 - 1) < k'.val) ∨ (1 = 0 ∨ k'.val + 1 * (1 - 1) < k.val)
  omega
theorem sR_cover : (Finset.univ : Finset (Fin 48)).biUnion (fun k => (sR k).set) = Finset.univ := by
  refine Finset.eq_univ_iff_forall.mpr fun i => ?_
  have h0 : (i (0 : Fin 3)).val < 48 := (i (0 : Fin 3)).isLt
  refine Finset.mem_biUnion.mpr ⟨⟨(i (0 : Fin 3)).val, h0⟩, Finset.mem_univ _, (sR _).mem_set.mpr fun a => ?_⟩
  match a with
  | ⟨0, _⟩ => exact ⟨0, by show 0 < 1; decide, by show (i (0 : Fin 3)).val = (i (0 : Fin 3)).val + 1 * 0; omega⟩
  | ⟨1, _⟩ => exact ⟨(i (1 : Fin 3)).val, (i (1 : Fin 3)).isLt, by show (i (1 : Fin 3)).val = 0 + 1 * (i (1 : Fin 3)).val; omega⟩
  | ⟨2, _⟩ => exact ⟨(i (2 : Fin 3)).val, (i (2 : Fin 3)).isLt, by show (i (2 : Fin 3)).val = 0 + 1 * (i (2 : Fin 3)).val; omega⟩

/-- The slot is the plane. -/
theorem sM_set (k : Fin 48) : (sM k).view.set = (pM k).view.set := View.set_reshape _ _

/-- The communication buffer is its slots, -/
theorem comm_split (f : Vec F S48x512x128 .bf16) : (((c : Thread nD τ).loc cc0_scratch1) ↦{fullShare} f) ⊢ (bigSep Finset.univ fun k : Fin 48 => sE (F := F) k c : sProp 𝕄) := by
  have h := owns_rects (c : Thread nD τ) cM fullShare sR (fun _ _ => rfl) sR_disj sR_cover f (Val := Elt F) (Ix := Unit) (Name := ℕ) (U := UU) (Lvl := ℕ)
  refine (Entails.of_eq (owns_whole (c : Thread nD τ) cc0_scratch1 fullShare f).symm).trans (h.trans (fam_mono fun k _ => ?_))
  unfold sE
  iintro H
  ihave H' := (owns_open (c : Thread nD τ) (pM k) fullShare _) $$ H
  icases H' with ⟨%g, -, H⟩
  iexists _
  iapply (owns_close (c : Thread nD τ) (sM k) fullShare _ g rfl)
  rw [sM_set k]
  iexact H

/-- and the slots, whatever they hold, are the buffer. -/
theorem comm_join : (bigSep Finset.univ fun k : Fin 48 => ownsTc c (sM k) fullShare (S P k.val c) : sProp 𝕄)
    ⊢ iprop(∃ f : Vec F S48x512x128 .bf16, ((c : Thread nD τ).loc cc0_scratch1) ↦{fullShare} f) := by
  have : Nonempty (Vec F S48x512x128 .bf16) := ⟨fun _ => Classical.choice (Elt.nonempty F .bf16)⟩
  have open1 : ∀ k ∈ (Finset.univ : Finset (Fin 48)), (ownsTc c (sM k) fullShare (S P k.val c) : sProp 𝕄)
      ⊢ iprop(∃ g : Vec F S48x512x128 .bf16, ((c : Thread nD τ).loc cc0_scratch1) ↦[(sM k).view.set]{fullShare} g) := fun k _ => by
    iintro H
    ihave H' := (owns_open (c : Thread nD τ) (sM k) fullShare _) $$ H
    icases H' with ⟨%g, -, H⟩
    iexists g; iexact H
  have hd : ∀ i ∈ (Finset.univ : Finset (Fin 48)), ∀ j ∈ (Finset.univ : Finset (Fin 48)), i ≠ j → Disjoint (sM i).view.set (sM j).view.set := fun i _ j _ hij => by
    rw [sM_set, sM_set]
    exact View.disjoint_slice (sR_disj i j hij)
  have hu : Finset.biUnion (β := Idx ((c : Thread nD τ).loc cc0_scratch1)) (Finset.univ : Finset (Fin 48)) (fun k => (sM k).view.set) = Finset.univ := by
    refine Finset.eq_univ_iff_forall.mpr fun i => ?_
    obtain ⟨k, -, hk⟩ := Finset.mem_biUnion.mp (sR_cover.symm ▸ Finset.mem_univ i : i ∈ (Finset.univ : Finset (Fin 48)).biUnion (fun k => (sR k).set))
    refine Finset.mem_biUnion.mpr ⟨k, Finset.mem_univ _, ?_⟩
    rw [sM_set, View.set_slice]
    exact Finset.mem_map_of_mem _ hk
  iintro H
  ihave H1 := (fam_mono open1) $$ H
  ihave H2 := (Idealize.SL.BI.bigSep_exists_pi Finset.univ fun (k : Fin 48) (g : Vec F S48x512x128 .bf16) => (((c : Thread nD τ).loc cc0_scratch1) ↦[(sM k).view.set]{fullShare} g : sProp 𝕄)) $$ H1
  icases H2 with ⟨%fs, H2⟩
  ihave H3 := (pointsTo_biUnion_join _ _ fs (fs 0) hd) $$ H2
  icases H3 with ⟨%f, -, H3⟩
  iexists f
  rw [← hu]
  iexact H3
end

section
variable (P : Dev nD → Fin 4 → FVec F S512x1024 .bf16) (K : Dev nD × CI → ℕ) (c : Dev nD)

/-- With every counter at its end: the result, the communication buffer, the semaphores at zero, nothing owed. -/
theorem st_exit (R : sProp 𝕄) :
    St P K R c 4 48 48 24 24 48 ⊢ iprop(R ∗ (∃ W, owes (c : Thread nD τ) (0 : CellTallies nD τ sig Unit) W)
      ∗ (bigSep Finset.univ fun k : Fin 48 => (semVal (sendCell k c) 0 : sProp 𝕄)) ∗ (bigSep Finset.univ fun k : Fin 48 => (semVal (recvCell k c) 0 : sProp 𝕄))
      ∗ (∃ f : Vec F S48x512x128 .bf16, ((c : Thread nD τ).loc cc0_scratch1) ↦{fullShare} f) ∗ (oL c ↦{fullShare} (outF P))) := by
  have e1 : Sends (F := F) c 48 48 = (bigSep Finset.univ fun k : Fin 48 => (semVal (sendCell k c) 0 : sProp 𝕄)) := by
    unfold Sends
    exact bigSep_congr fun k _ => by have := k.isLt; unfold sendSt; rw [if_neg (by omega), if_neg (by omega)]
  have e2 : Recvs (F := F) c 48 = (bigSep Finset.univ fun k : Fin 48 => (semVal (recvCell k c) 0 : sProp 𝕄)) := by
    unfold Recvs
    exact bigSep_congr fun k _ => by have := k.isLt; unfold recvSt; rw [if_neg (by omega)]
  have e3 : Slots P c 48 48 48 = (bigSep Finset.univ fun k : Fin 48 => ownsTc c (sM k) fullShare (S P k.val c) : sProp 𝕄) := by
    unfold Slots
    exact bigSep_congr fun k _ => by have := k.isLt; unfold slotSt; rw [if_neg (by omega), if_neg (by omega)]
  have e5 : Tiles P c 4 48 48 24 24 48 = (bigSep Finset.univ fun k : Fin 32 => ownsTc c (tM k.val c) fullShare (last P k.val c) : sProp 𝕄) := by
    unfold Tiles
    refine bigSep_congr fun k _ => ?_
    have := k.isLt
    have ho : ord k.val < 4 := by unfold ord; split_ifs <;> decide
    unfold tileSt last
    rw [if_neg (by omega), if_neg (by omega)]
    by_cases h : k.val < 24
    · rw [if_pos h, if_pos (by omega), if_pos h, if_pos h]
    · rw [if_neg h, if_pos (by omega), if_neg h]
  unfold St owesE
  rw [e1, e2, e3, e5, Os_end]
  iintro ⟨H1, -, H3, H4, H5, H6, -, H8⟩
  isplitl [H1]; · iexact H1
  isplitl [H3]; · iexact H3
  isplitl [H4]; · iexact H4
  isplitl [H5]; · iexact H5
  isplitl [H6]; · iapply (comm_join P c) $$ H6
  iapply (out_join P c) $$ H8
end

end Cert.Moe
-- ==== Proof.Run.lean ====
/-
# `Run`: the pipeline's one point

The staged operands, what the point leaves in each window, and that the body does it.
-/
module

public import proofs.«01_k».proof.Proof.Chain
public import proofs.«01_k».proof.Proof.Ends
public import proofs.«01_k».proof.Proof.Gen.KernelIdeal.Launch
public import Idealize.ShloMosaic.Lib.Pipeline.Launch
public import Idealize.ShloMosaic.Lib.Pipeline.Kit
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

set_option maxHeartbeats 1000000
local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The staged operands of device `c`. -/
def stX (c : Dev nD) : Vec F S2048x512 .bf16 := (win0_0.blk (0 : Fin 1)).view.read (Elt F) (m ((c : Thread nD τ).loc main_arg0))
def stR (c : Dev nD) : Vec F S512x16 .bf16 := (win0_1.blk (0 : Fin 1)).view.read (Elt F) (m ((c : Thread nD τ).loc main_arg1))
def stI (c : Dev nD) : Vec F S2048x1 .i32 := (win0_2.blk (0 : Fin 1)).view.read (Elt F) (m ((c : Thread nD τ).loc main_arg2))
def stE (c : Dev nD) : Vec F S4x512x1024 .bf16 := (win0_3.blk (0 : Fin 1)).view.read (Elt F) (m ((c : Thread nD τ).loc main_arg3))
def stW (c : Dev nD) : Vec F S512x1024 .bf16 := (win0_4.blk (0 : Fin 1)).view.read (Elt F) (m ((c : Thread nD τ).loc main_arg4))

/-- The partial products of every device. -/
def PP (c : Dev nD) (ch : Fin 4) : FVec F S512x1024 .bf16 := part (stX m c) (stR m c) (stI m c) (stE m c) (stW m c) c ch

/-- The gates a device leaves in its scratch buffer. -/
def gt (c : Dev nD) : Vec F S2048x4 .f32 := gates (stX m c) (stR m c) (stI m c) c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two scratch buffers, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- Before the point: the protocol's part of the device, its credits, its scratch buffers. -/
def Φ₀ (c : Dev nD) : sProp 𝕄 := iprop(((∃ K, ghost (PP m) K c) ∗ creds c) ∗ scr c)
/-- After it: the scratch buffers, and every counter at zero. -/
def Φ₁ (c : Dev nD) : sProp 𝕄 :=
  iprop(scr c ∗ (bigSep Finset.univ fun k : Fin 48 => (semVal (sendCell k c) 0 : sProp 𝕄)) ∗ (bigSep Finset.univ fun k : Fin 48 => (semVal (recvCell k c) 0 : sProp 𝕄))
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stX m c
    | ⟨1, _⟩ => stR m c
    | ⟨2, _⟩ => stI m c
    | ⟨3, _⟩ => stE m c
    | ⟨4, _⟩ => stW m c
    | ⟨5, _⟩ => outF (PP m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_in (t : Fin cfg0.N) : (cfg0.win (0 : Fin 6)).fetch t = true ∧ (cfg0.win (1 : Fin 6)).fetch t = true ∧ (cfg0.win (2 : Fin 6)).fetch t = true
    ∧ (cfg0.win (3 : Fin 6)).fetch t = true ∧ (cfg0.win (4 : Fin 6)).fetch t = true := by rw [fin_N t]; exact ⟨rfl, rfl, rfl, rfl, rfl⟩

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
set_option maxRecDepth 4000 in
def bodyPost (c : Dev nD) : sProp 𝕄 :=
  iprop(Φ₁ c ∗ (dats m ρ 0 c).owesAt () t₀.succ
    ∗ stg c cc0_stg0_0 (stX m c) ∗ stg c cc0_stg1_0 (stR m c) ∗ stg c cc0_stg2_0 (stI m c) ∗ stg c cc0_stg3_0 (stE m c) ∗ stg c cc0_stg4_0 (stW m c)
    ∗ stg c cc0_stg5_0 (outF (PP m)))

/-- At the end of the walk every window's buffer, the scratch buffers and the counters are as promised. -/
theorem body_exit (K : Dev nD × CI → ℕ) (c : Dev nD) :
    St (PP m) K (Rb c (stX m c) (stR m c) (stI m c) (stE m c) (stW m c) (semVal (barCell c) 0) (gates (stX m c) (stR m c) (stI m c) c)) c 4 48 48 24 24 48
      ⊢ bodyPost m ρ c := by
  refine (st_exit (PP m) K c _).trans ?_
  unfold bodyPost Φ₁ scr Rb Dat.owesAt Pipeline.owesWithin
  rw [show (dats m ρ 0 c).owed t₀.succ = 0 from rfl]
  iintro ⟨⟨Hg, H0, H1, H2, H3, H4, HB⟩, ⟨%W, HO⟩, HS, HV, ⟨%f, Hs1⟩, H5⟩
  isplitl [Hg Hs1 HS HV HB]
  · isplitl [Hg Hs1]
    · isplitl [Hg]; · iexists _; iexact Hg
      iexists f; iexact Hs1
    isplitl [HS]; · iexact HS
    isplitl [HV] <;> iassumption
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

/-- What the point gives the body is where the walk starts. -/
theorem body_entry (c : Dev nD) :
    bodyPre m ρ c ⊢ iprop(∃ K, ∃ g, Rb c (stX m c) (stR m c) (stI m c) (stE m c) (stW m c) iprop(emp) g ∗ start (PP m) K c) := by
  unfold bodyPre Φ₀ scr
  iintro ⟨⟨⟨⟨%K, Hg⟩, Hcr⟩, ⟨%g, Hs0⟩, ⟨%f, Hs1⟩⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = stX m c := by rw [h0]; unfold Dat.before; rw [if_pos (fetch_in t₀).1]; rfl
  have e1 : g1 = stR m c := by rw [h1]; unfold Dat.before; rw [if_pos (fetch_in t₀).2.1]; rfl
  have e2 : g2 = stI m c := by rw [h2]; unfold Dat.before; rw [if_pos (fetch_in t₀).2.2.1]; rfl
  have e3 : g3 = stE m c := by rw [h3]; unfold Dat.before; rw [if_pos (fetch_in t₀).2.2.2.1]; rfl
  have e4 : g4 = stW m c := by rw [h4]; unfold Dat.before; rw [if_pos (fetch_in t₀).2.2.2.2]; rfl
  subst e0; subst e1; subst e2; subst e3; subst e4
  unfold Dat.owesAt Pipeline.owesWithin
  icases Ho with ⟨%W, %hW, HO⟩
  rw [show (dats m ρ 0 c).owed t₀.castSucc = O₀ c from rfl]
  ihave Ht := (out_split c g5) $$ H5
  ihave Hsl := (comm_split c f) $$ Hs1
  iexists K
  iexists g
  unfold Rb start bufs
  isplitl [Hs0 H0 H1 H2 H3 H4]
  · isplitl [Hs0]; · iexact Hs0
    isplitl [H0]; · iexact H0
    isplitl [H1]; · iexact H1
    isplitl [H2]; · iexact H2
    isplitl [H3]; · iexact H3
    isplitl [H4]; · iexact H4
    iempintro
  isplitl [Hg]; · iexact Hg
  isplitl [Hcr]; · iexact Hcr
  isplitl [Hsl Ht]
  · isplitl [Hsl] <;> iassumption
  iexists W
  iexact HO

set_option maxRecDepth 65536 in
/-- The body, between the windows' buffers. -/
theorem sound_body (c : Dev nD) : bodyPre m ρ c ⊢ run c (app (cc0_body (F := F))) fun _ => bodyPost m ρ c := by
  refine (body_entry m ρ c).trans ?_
  refine exists_elim fun K => exists_elim fun g => ?_
  exact (walk (PP m) K c (stX m c) (stR m c) (stI m c) (stE m c) (stW m c) (fun _ => rfl) g).trans
    (wp_mono _ _ _ (fun _ => body_exit m ρ K c))

set_option maxRecDepth 65536 in
/-- The pipeline's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3) (fun _ => bodyPost m ρ c)
  exact sound_body m ρ c

end Cert.Moe
-- ==== Proof.Launch.lean ====
/-
# `Launch`: the four devices together

The launch's resources dealt to the devices, every cell's invariant allocated at once, and the run of @main.
-/
module

public import proofs.«01_k».proof.Proof.Run
public import Idealize.ShloMosaic.Lib.Pipeline.CollectiveSegs
@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

set_option maxHeartbeats 1000000
local notation "𝕄" => MT nD τ sig Unit (Elt F) ℕ UU ℕ

/-! ## The cells -/

/-- The kernel's own semaphores: the send ones and the receive ones. -/
abbrev osem (x : Bool × Fin 48) : SemLoc sig := csem (some x)

theorem csem_injective : Function.Injective csem := by
  intro a b h
  match a, b, h with
  | none, none, _ => rfl
  | none, some (false, k), h => cases h
  | none, some (true, k), h => cases h
  | some (false, k), none, h => cases h
  | some (true, k), none, h => cases h
  | some (false, k), some (false, k'), h =>
    have : 6 + k.val = 6 + k'.val := congrArg (fun s : SemLoc sig => match s with | .dma q => q.val | .reg _ => 0) h
    have : k = k' := Fin.ext (by omega)
    rw [this]
  | some (false, k), some (true, k'), h =>
    have : 6 + k.val = 54 + k'.val := congrArg (fun s : SemLoc sig => match s with | .dma q => q.val | .reg _ => 0) h
    have := k.isLt; omega
  | some (true, k), some (false, k'), h =>
    have : 54 + k.val = 6 + k'.val := congrArg (fun s : SemLoc sig => match s with | .dma q => q.val | .reg _ => 0) h
    have := k'.isLt; omega
  | some (true, k), some (true, k'), h =>
    have : 54 + k.val = 54 + k'.val := congrArg (fun s : SemLoc sig => match s with | .dma q => q.val | .reg _ => 0) h
    have : k = k' := Fin.ext (by omega)
    rw [this]

theorem ownSemFacts : Pipeline.OwnSemFacts cfg0.spec osem where
  isScoped := by decide
  inj := fun a b h => Option.some.inj (csem_injective h)
  disj := by decide

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The tokens of a device's own cells: its barrier's two, each other cell's one. -/
abbrev tokOf (x : Dev nD × (Bool ⊕ (Bool × Fin 48))) : GSem nD τ sig × ℕ × Bool := match x.2 with
  | .inl d => (kcell (x.1, none), 0, d)
  | .inr y => (kcell (x.1, some y), 0, false)
theorem tokOf_injective : Function.Injective tokOf := by
  rintro ⟨c, j⟩ ⟨c', j'⟩ h
  match j, j', h with
  | .inl d, .inl d', h =>
    have h1 := kcell_injective (congrArg (fun x : GSem nD τ sig × ℕ × Bool => x.1) h)
    have h2 : d = d' := congrArg (fun x : GSem nD τ sig × ℕ × Bool => x.2.2) h
    have h3 : c = c' := (Prod.mk.inj h1).1
    rw [h3, h2]
  | .inl d, .inr y, h =>
    have h1 := kcell_injective (congrArg (fun x : GSem nD τ sig × ℕ × Bool => x.1) h)
    cases (Prod.mk.inj h1).2
  | .inr y, .inl d, h =>
    have h1 := kcell_injective (congrArg (fun x : GSem nD τ sig × ℕ × Bool => x.1) h)
    cases (Prod.mk.inj h1).2
  | .inr y, .inr y', h =>
    have h1 := kcell_injective (congrArg (fun x : GSem nD τ sig × ℕ × Bool => x.1) h)
    have h3 : c = c' := (Prod.mk.inj h1).1
    rw [h3, Option.some.inj (Prod.mk.inj h1).2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-! ## Families over a device's cells -/

theorem bigSep_bool {M : Type} [URA M] (Φ : Bool → sProp M) : bigSep Finset.univ Φ = iprop(Φ false ∗ Φ true) :=
  bigSep_univ_eq_bigSepL [false, true] (by decide) (by decide) Φ
theorem bigSep_BF {M : Type} [URA M] (Φ : Bool × Fin 48 → sProp M) :
    bigSep Finset.univ Φ = iprop((bigSep Finset.univ fun k : Fin 48 => Φ (false, k)) ∗ bigSep Finset.univ fun k : Fin 48 => Φ (true, k)) := by
  rw [bigSep_univ_prod, bigSep_bool]
theorem bigSep_CI {M : Type} [URA M] (Φ : CI → sProp M) :
    bigSep Finset.univ Φ = iprop(Φ none ∗ (bigSep Finset.univ fun k : Fin 48 => Φ (some (false, k))) ∗ bigSep Finset.univ fun k : Fin 48 => Φ (some (true, k))) := by
  rw [← bigSep_BF fun x => Φ (some x), bigSep_univ_at Φ none]
  congr 1

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- The tokens of device `c`'s own cells. -/
def toks (c : Dev nD) : sProp 𝕄 :=
  iprop((dutyTok ER (barCell c) 0 false ∗ dutyTok ER (barCell c) 0 true)
    ∗ (bigSep Finset.univ fun k : Fin 48 => (dutyTok ER (sendCell k c) 0 false : sProp 𝕄)) ∗ bigSep Finset.univ fun k : Fin 48 => (dutyTok ER (recvCell k c) 0 false : sProp 𝕄))

/-- What the launch deals device `c`. -/
def G (c : Dev nD) : sProp 𝕄 :=
  iprop((bigSep Finset.univ fun k : CI => roundState ER (Rd (PP m)) (kcell (c, k)) 0)
    ∗ (bigSep Finset.univ fun k : CI => iprop(atPos ER (kcell (c, k)) 0 ∅ 0 ∗ reached ER (kcell (c, k)) 0)) ∗ toks c)

/-- Every cell's invariant, and that its round 0 is reached. -/
def records (K : Dev nD × CI → ℕ) : sProp 𝕄 :=
  iprop((bigSep Finset.univ fun ci : Dev nD × CI => cellInv ER (Rd (PP m)) (K ci) (kcell ci))
    ∗ bigSep Finset.univ fun ci : Dev nD × CI => reached ER (kcell ci) 0)
instance records_persistent (K : Dev nD × CI → ℕ) : BI.Persistent (records m K) := by unfold records; infer_instance

/-- The tokens device `c` pays with. -/
def payToks (c : Dev nD) : sProp 𝕄 :=
  iprop((dutyTok ER (barCell (nxt c)) 0 false ∗ dutyTok ER (barCell (prv c)) 0 true)
    ∗ (bigSep Finset.univ fun k : Fin 48 => (dutyTok ER (sendCell k c) 0 false : sProp 𝕄)) ∗ bigSep Finset.univ fun k : Fin 48 => (dutyTok ER (recvCell k (nb k.val c)) 0 false : sProp 𝕄))
/-- What is device `c`'s alone: its positions, and these. -/
def linear (c : Dev nD) : sProp 𝕄 := iprop((bigSep Finset.univ fun k : CI => (atPos ER (kcell (c, k)) 0 ∅ 0 : sProp 𝕄)) ∗ payToks c)
/-- What the global step makes of the deal. -/
def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_bool, bigSep_BF]; rfl
  iintro HX
  imod (Rounds.fund ER (Rd (PP m)) ringCells ringToks) $$ HX with ⟨Hst, Hr, Hat, Htok⟩
  imodintro
  ihave Hst' := (Entails.of_eq (hX fun g => roundState ER (Rd (PP m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The transfers' semaphores are the kernel's own, -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 48 => (semVal (sendCell k c) 0 : sProp 𝕄)) ∗ bigSep Finset.univ fun k : Fin 48 => (semVal (recvCell k c) 0 : sProp 𝕄)) := by
  unfold Pipeline.ownSems0; rw [bigSep_BF]; rfl
/-- the barrier semaphore is the one that is not. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS]; · iexact HS
  iexact HV

/-- One device's invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd (PP m)) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd (PP m)) (kcell (c, k)) 0)
      ⊢ (|={Set.univ}=> bigSep Finset.univ fun k : CI => iprop(∃ κ : ℕ, cellInv ER (Rd (PP m)) κ (kcell (c, k))) : sProp 𝕄) from by
        rw [← bigSep_sep']
        exact (bigSep_mono fun k _ => (Rounds.body_intro ER (Rd (PP m)) (kcell (c, k))).trans inv_alloc).trans (bigSep_fupd _ _)) $$ [Hv Hst] with Hinv
  · isplitl [Hv]
    · iexact Hv
    · iexact Hst
  imodintro
  isplitl [Hinv]; · iexact Hinv
  isplitl [Hat]; · iexact Hat
  iexact Htok

/-- Each receive token goes to the device that sends there. -/
theorem recv_around : (bigSep Finset.univ fun c : Dev nD => bigSep Finset.univ fun k : Fin 48 => (dutyTok ER (recvCell k c) 0 false : sProp 𝕄))
    = bigSep Finset.univ fun c : Dev nD => bigSep Finset.univ fun k : Fin 48 => (dutyTok ER (recvCell k (nb k.val c)) 0 false : sProp 𝕄) := by
  rw [bigSep_univ_comm, bigSep_univ_comm (fun (c : Dev nD) (k : Fin 48) => (dutyTok ER (recvCell k (nb k.val c)) 0 false : sProp 𝕄))]
  exact bigSep_congr fun k _ => bigSep_univ_equiv (ringK k.val) (fun c : Dev nD => (dutyTok ER (recvCell k c) 0 false : sProp 𝕄))

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', recv_around,
    bigSep_univ_equiv ring (fun c : Dev nD => (dutyTok ER (barCell c) 0 false : sProp 𝕄)),
    bigSep_univ_equiv ring.symm (fun c : Dev nD => (dutyTok ER (barCell c) 0 true : sProp 𝕄))]
  iintro H; iexact H

theorem regroup :
    (bigSep Finset.univ fun c : Dev nD => iprop((bigSep Finset.univ fun k : CI => iprop(∃ κ : ℕ, cellInv ER (Rd (PP m)) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd (PP m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd (PP m)) κ (kcell ck) : sProp 𝕄))) $$ HI
  icases HK with ⟨%K, #HI⟩
  ihave Htk := (toks_around (F := F)) $$ Htok
  iapply (bigSep_with_persistent (R := records m K) (Φ := linear) fun c _ => (show iprop(records m K ∗ linear c) ⊢ G' m c from by
    unfold G'; iintro H; iexists K; iexact H))
  isplitr
  · unfold records; isplitl; · iexact HI
    iexact HR
  · unfold linear
    rw [bigSep_sep']
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The launch's credits: what is owed to a device's cells. -/
theorem creds_intro (c : Dev nD) : (Pipeline.launchCred O₀ c : sProp 𝕄) ⊢ creds c := by
  have hO : (O₀ : Dev nD → CellTallies nD τ sig Unit) = fun d => ((∑ k : Fin 48, tallyAt (recvCell k (nb k.val d)) () N) + tallyAt (barCell (nxt d)) () 1) + tallyAt (barCell (prv d)) () 1 := by
    funext d
    unfold O₀ O₁ Os
    congr 2
  rw [hO, Pipeline.launchCred_add, Pipeline.launchCred_add (O := fun d => ∑ k : Fin 48, tallyAt (recvCell k (nb k.val d)) () N),
    Pipeline.launchCred_sum Finset.univ (fun (k : Fin 48) (d : Dev nD) => (tallyAt (recvCell k (nb k.val d)) () N : CellTallies nD τ sig Unit))]
  unfold creds
  iintro ⟨⟨HN, H1⟩, H2⟩
  ihave H1' := (Pipeline.launchCred_tallyAt (.reg barS) nxt prv nxt_prv prv_nxt () 1 c) $$ H1
  ihave H2' := (Pipeline.launchCred_tallyAt (.reg barS) prv nxt prv_nxt nxt_prv () 1 c) $$ H2
  isplitl [H1' H2']
  · rw [← tallyAt_add (barCell c) () 1 1]
    iapply (cred_add _ _).2
    isplitl [H1'] <;> iassumption
  · iapply (fam_mono fun (k : Fin 48) _ => (Pipeline.launchCred_tallyAt (Val := Elt F) (.dma (recvS k)) (nb k.val) (pv k.val) (nb_pv k.val) (pv_nb k.val) () N c)) $$ HN

/-! ## The theorem's side conditions -/

/-- A device's start: its part of the deal with the levels, and its credits. -/
def start0 (c : Dev nD) : sProp 𝕄 := iprop((∃ K, ghost (PP m) K c) ∗ creds c)

theorem ghost_intro (K : Dev nD × CI → ℕ) (c : Dev nD) : iprop(levAts L lv ∗ records m K ∗ linear c) ⊢ ghost (PP m) K c := by
  unfold records linear payToks ghost recs
  have ht : (bigSep Finset.univ fun k : Fin 48 => tok0 (F := F) c k)
      = iprop((bigSep Finset.univ fun k : Fin 48 => (dutyTok ER (sendCell k c) 0 false : sProp 𝕄)) ∗ (bigSep Finset.univ fun k : Fin 48 => (dutyTok ER (recvCell k (nb k.val c)) 0 false : sProp 𝕄))
        ∗ bigSep Finset.univ fun k : Fin 48 => (atPos ER (sendCell k c) 0 ∅ 0 : sProp 𝕄)) := by
    unfold tok0; rw [bigSep_sep', bigSep_sep']
  rw [ht, bigSep_CI fun k => (atPos ER (kcell (c, k)) 0 ∅ 0 : sProp 𝕄)]
  iintro ⟨Hl, ⟨HI, HR⟩, ⟨HaB, HaS, HaV⟩, ⟨HtN, HtP⟩, HtS, HtV⟩
  isplitl [Hl HI HR]
  · isplitl [HI]; · iexact HI
    isplitl [HR] <;> iassumption
  isplitl [HaB]; · iexact HaB
  isplitl [HtP]; · iexact HtP
  isplitl [HtN]; · iexact HtN
  isplitl [HtS HtV HaS]
  · isplitl [HtS]; · iexact HtS
    isplitl [HtV]; · iexact HtV
    iexact HaS
  iexact HaV

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start0 m c ∗ emp) := by
  unfold G'
  iintro ⟨-, Hlev, Hcr, -, ⟨%K, HG⟩⟩
  ihave Hc := (creds_intro (F := F) c) $$ Hcr
  imodintro
  unfold start0
  isplitl
  · isplitl [HG Hlev]
    · iexists K
      iapply (ghost_intro m K c)
      isplitl [Hlev] <;> iassumption
    · iexact Hc
  · iempintro

theorem phi0_intro (c : Dev nD) :
    iprop(start0 m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start0 scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every window's array at its final contents, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every weakly fair execution of @main on the four devices terminates, with each device's
    arrays at these contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start0 m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe
-- ==== Proof.Spec.lean ====
/-
# `Spec`: the layer over the extended reals

The softmax router's probabilities and the layer's output, as sums over extended reals.
-/
module

public import proofs.«01_k».proof.Proof.Gen.ReferenceIdeal
public import Idealize.ShloMosaic.Lib.Pointwise
public import Idealize.ShloMosaic.Lib.IdealHost
@[expose] public section

noncomputable section

namespace Cert.Moe

open Idealize.ShloMosaic

/-- The router's score of expert `e` for token `t`. -/
def score (x : (⟨2, ![2048, 512]⟩ : Shape).Idx → EReal) (r : (⟨2, ![512, 16]⟩ : Shape).Idx → EReal) (t : Fin 2048) (e : Fin 16) : EReal :=
  ∑ k : Fin 512, x (ix2 t k) * r (ix2 k e)
/-- The largest of a row of scores. -/
def top (s : Fin 16 → EReal) : EReal := (Finset.univ : Finset (Fin 16)).fold max ⊥ s
/-- The softmax of a row of scores. -/
def soft (s : Fin 16 → EReal) (e : Fin 16) : EReal := Ideal.div (Ideal.exp (s e - top s)) (∑ e' : Fin 16, Ideal.exp (s e' - top s))
/-- Token `t`'s output column `h`: the shared expert's, plus its own expert's times that expert's probability. -/
def layer (x : (⟨2, ![2048, 512]⟩ : Shape).Idx → EReal) (r : (⟨2, ![512, 16]⟩ : Shape).Idx → EReal) (n : (⟨2, ![2048, 1]⟩ : Shape).Idx → BitVec 32)
    (w : (⟨3, ![16, 512, 1024]⟩ : Shape).Idx → EReal) (v : (⟨2, ![512, 1024]⟩ : Shape).Idx → EReal) (t : Fin 2048) (h : Fin 1024) : EReal :=
  (∑ k : Fin 512, x (ix2 t k) * v (ix2 k h))
    + ∑ e : Fin 16, if BitVec.ofNat 32 e.val = n (ix2 t 0) then soft (score x r t) e * ∑ k : Fin 512, x (ix2 t k) * w (ix3 e k h) else 0

/-- The word of −∞. -/
theorem ofBits_ninf : Ideal.ofBits .f32 0xFF800000#32 = ⊥ := by simp [Ideal.ofBits, Ideal.ieee]

/-- A constant zero, at an index. -/
theorem constant_zero {s : Shape} (i : s.Idx) : constant (F := Ideal) s .f32 0x00000000#32 i = (0 : EReal) := Ideal.ofBits_zero_f32

/-- A choice by an equality of words. -/
theorem select_eq {w : ℕ} {α : Type} (a b : BitVec w) (u v : α) : Scalar.select (IntOp.cmpi .eq a b) u v = if a = b then u else v := by
  by_cases h : a = b <;> simp [Scalar.select, IntOp.cmpi, beq_false_of_ne, h]

end Cert.Moe

end
-- ==== Proof.KerValue.lean ====
/-
# `KerValue`: what one device computes, read at an index

The gates and the partial products of a device, over the extended reals.
-/
module

public import proofs.«01_k».proof.Proof.Run
public import proofs.«01_k».proof.Proof.Spec
@[expose] public section

noncomputable section

namespace Cert.Moe

open Cert.KernelIdeal Cert.KernelIdeal.Gen
open Idealize.ShloMosaic

set_option maxRecDepth 16384
set_option maxHeartbeats 1000000

variable (xs : FVec Ideal S2048x512 .bf16) (rs : FVec Ideal S512x16 .bf16) (is : IVec S2048x1 32) (es : FVec Ideal S4x512x1024 .bf16)
  (ws : FVec Ideal S512x1024 .bf16) (c : Dev nD)

/-- The kernel's probabilities are the softmax of the scores. -/
theorem pay1_apply (t : Fin 2048) (e : Fin 16) : k0_pay1 (F := Ideal) xs rs (ix2 t e) = soft (score xs rs t) e := by
  pointwise [k0_pay1]
  simp only [ofBits_ninf]
  rfl

/-- Device `c`'s expert `j`, among all sixteen. -/
def ex (c : Dev nD) (j : Fin 4) : Fin 16 := ⟨4 * c.val + j.val, by have := c.isLt; have := j.isLt; simp only [nD] at *; omega⟩

/-- The kernel's word for that expert. -/
theorem ex_word (c : Dev nD) (j : Fin 4) : Scalar.addi (Scalar.muli (myW c) 4#32) (BitVec.ofNat 32 j.val) = BitVec.ofNat 32 (ex c j).val := by
  revert c j; decide

/-- A row picked at one expert, of the row picked at the token's. -/
theorem pick (n : BitVec 32) (p : Fin 16 → EReal) (e : Fin 16) :
    (∑ k : Fin 16, if BitVec.ofNat 32 k.val = BitVec.ofNat 32 e.val then (if BitVec.ofNat 32 k.val = n then p k else 0) else 0)
      = if BitVec.ofNat 32 e.val = n then p e else 0 := by
  have h : ∀ k : Fin 16, (BitVec.ofNat 32 k.val = BitVec.ofNat 32 e.val) = (k = e) := by
    intro k; revert k e; decide
  simp only [h]
  rw [Finset.sum_ite_eq' Finset.univ e]
  simp

/-- A gate: the probability of the device's expert `j`, if the token goes there. -/
theorem gcol_apply (j : Fin 4) (t : Fin 2048) :
    gcol (F := Ideal) xs rs is c j (ix2 t 0) = if BitVec.ofNat 32 (ex c j).val = is (ix2 t 0) then soft (score xs rs t) (ex c j) else 0 := by
  rw [← pick, ← ex_word]
  match j with
  | 0 => pointwise [gcol, k0_pay4, k0_pay3, k0_pay2, io16]; simp only [pay1_apply, select_eq]
  | 1 => pointwise [gcol, k0_pay5, k0_pay3, k0_pay2, io16]; simp only [pay1_apply, select_eq]
  | 2 => pointwise [gcol, k0_pay6, k0_pay3, k0_pay2, io16]; simp only [pay1_apply, select_eq]
  | 3 => pointwise [gcol, k0_pay7, k0_pay3, k0_pay2, io16]; simp only [pay1_apply, select_eq]

/-- Token `r` of chunk `q`. -/
def tok (q : Fin 4) (r : Fin 512) : Fin 2048 := ⟨512 * q.val + r.val, by omega⟩

/-- A chunk's operand rows. -/
theorem xrows_apply (q : Fin 4) (r k : Fin 512) : xrows (F := Ideal) xs q (ix2 r k) = xs (ix2 (tok q r) k) := by
  refine congrArg xs (funext fun a => Fin.ext ?_)
  match a with
  | ⟨0, _⟩ => show 512 * q.val + 1 * r.val = 512 * q.val + r.val; omega
  | ⟨1, _⟩ => show 0 + 1 * k.val = k.val; omega

/-- A chunk's gate rows. -/
theorem grows_apply (q : Fin 4) (r : Fin 512) (j : Fin 4) :
    (grows (F := Ideal) xs rs is c q (ix2 r j) : EReal) = gcol (F := Ideal) xs rs is c j (ix2 (tok q r) 0) := by
  have h : grows (F := Ideal) xs rs is c q (ix2 r j) = gates (F := Ideal) xs rs is c (ix2 (tok q r) j) := by
    refine congrArg (gates (F := Ideal) xs rs is c) (funext fun a => Fin.ext ?_)
    match a with
    | ⟨0, _⟩ => show 512 * q.val + 1 * r.val = 512 * q.val + r.val; omega
    | ⟨1, _⟩ => show 0 + 1 * j.val = j.val; omega
  rw [h]
  show gcol (F := Ideal) xs rs is c j _ = _
  rw [← ix2_eq_valueIdx]
  rfl

/-- One expert's weights. -/
theorem erow_apply (j : Fin 4) (k : Fin 512) (h : Fin 1024) : erow (F := Ideal) es j (ix3 0 k h) = es (ix3 j k h) := by
  refine congrArg es (funext fun a => Fin.ext ?_)
  match a with
  | ⟨0, _⟩ => show j.val + 1 * 0 = j.val; omega
  | ⟨1, _⟩ => show 0 + 1 * k.val = k.val; omega
  | ⟨2, _⟩ => show 0 + 1 * h.val = h.val; omega

/-- A sum over the five operand blocks, block by block. -/
theorem sum_blocks (f : Fin 2560 → EReal) (g : Fin 5 → Fin 512 → EReal)
    (h : ∀ (b : Fin 5) (k : Fin 512) (x : Fin 2560), x.val = 512 * b.val + k.val → f x = g b k) : ∑ x, f x = ∑ b, ∑ k, g b k := by
  rw [← Fintype.sum_prod_type', ← (finProdFinEquiv (m := 5) (n := 512)).sum_comp]
  refine Finset.sum_congr rfl fun p _ => ?_
  exact h _ _ _ (Nat.add_comm _ _)

/-- A ladder of five rungs, at a position of one of them. -/
theorem ladder {f0 f1 f2 f3 f4 : Fin 512 → EReal} {F : Fin 5 → Fin 512 → EReal} (h0 : F 0 = f0) (h1 : F 1 = f1) (h2 : F 2 = f2)
    (h3 : F 3 = f3) (h4 : F 4 = f4) (b : Fin 5) (k : Fin 512) (x : Fin 2560) (hx : x.val = 512 * b.val + k.val) :
    (if h : x.val < 512 then f0 ⟨x.val, h⟩ else if h : x.val - 512 < 512 then f1 ⟨x.val - 512, h⟩ else
      if h : x.val - 512 - 512 < 512 then f2 ⟨x.val - 512 - 512, h⟩ else
        if h : x.val - 512 - 512 - 512 < 512 then f3 ⟨x.val - 512 - 512 - 512, h⟩ else f4 ⟨x.val - 512 - 512 - 512 - 512, by omega⟩) = F b k := by
  have hk := k.isLt
  have hb := b.isLt
  subst h0 h1 h2 h3 h4
  split_ifs
  · exact congrArg₂ F (Fin.ext (by show 0 = b.val; omega)) (Fin.ext (by show x.val = k.val; omega))
  · exact congrArg₂ F (Fin.ext (by show 1 = b.val; omega)) (Fin.ext (by show x.val - 512 = k.val; omega))
  · exact congrArg₂ F (Fin.ext (by show 2 = b.val; omega)) (Fin.ext (by show x.val - 512 - 512 = k.val; omega))
  · exact congrArg₂ F (Fin.ext (by show 3 = b.val; omega)) (Fin.ext (by show x.val - 512 - 512 - 512 = k.val; omega))
  · exact congrArg₂ F (Fin.ext (by show 4 = b.val; omega)) (Fin.ext (by show x.val - 512 - 512 - 512 - 512 = k.val; omega))

/-- The gate of the device's expert `j`. -/
def gate (t : Fin 2048) (e : Fin 16) : EReal := if BitVec.ofNat 32 e.val = is (ix2 t 0) then soft (score xs rs t) e else 0

/-- Block `b` of the left operand's row. -/
def lhsB (t : Fin 2048) (b : Fin 5) (k : Fin 512) : EReal :=
  if hb : b.val < 4 then
    xs (ix2 t k) * gate xs rs is t (ex c ⟨b.val, hb⟩)
  else xs (ix2 t k)

/-- Block `b` of the right operand's column. -/
def rhsB (h : Fin 1024) (b : Fin 5) (k : Fin 512) : EReal :=
  if hb : b.val < 4 then es (ix3 (⟨b.val, hb⟩ : Fin 4) k h) else ws (ix2 k h) * Ideal.ofBits FTy.bf16 16000#16

/-- A partial product is one sum over the experts held here and the quarter of the shared one. -/
theorem part_apply (q : Fin 4) (r : Fin 512) (h : Fin 1024) :
    part (F := Ideal) xs rs is es ws c q (ix2 r h) = ∑ b, ∑ k, lhsB xs rs is c (tok q r) b k * rhsB es ws h b k := by
  pointwise [part, k0_pay13, wflat, k0_pay8]
  simp only [grows_apply, xrows_apply, erow_apply, gcol_apply]
  refine sum_blocks _ _ fun b k x hx => ?_
  refine congrArg₂ (fun a b : EReal => a * b) ?_ ?_
  · exact ladder (f0 := fun k => xs (ix2 (tok q r) k) * gate xs rs is (tok q r) (ex c 0)) (f1 := fun k => xs (ix2 (tok q r) k) * gate xs rs is (tok q r) (ex c 1))
      (f2 := fun k => xs (ix2 (tok q r) k) * gate xs rs is (tok q r) (ex c 2)) (f3 := fun k => xs (ix2 (tok q r) k) * gate xs rs is (tok q r) (ex c 3))
      (f4 := fun k => xs (ix2 (tok q r) k)) (F := lhsB xs rs is c (tok q r)) rfl rfl rfl rfl rfl b k x hx
  · exact ladder (f0 := fun k => es (ix3 (0 : Fin 4) k h)) (f1 := fun k => es (ix3 (1 : Fin 4) k h)) (f2 := fun k => es (ix3 (2 : Fin 4) k h))
      (f3 := fun k => es (ix3 (3 : Fin 4) k h)) (f4 := fun k => ws (ix2 k h) * Ideal.ofBits FTy.bf16 16000#16)
      (F := rhsB es ws h) rfl rfl rfl rfl rfl b k x hx
end Cert.Moe

end
-- ==== Proof.Algebra.lean ====
/-
# `Algebra`: why the kernel's order of sums is the reference's

Over the extended reals a product distributes over a sum when its factor is a nonnegative real. With finite tokens and
router weights every probability is one; so is the quarter by which each device scales the shared weights.
-/
module

public import proofs.«01_k».proof.Proof.Spec
@[expose] public section

noncomputable section

namespace Cert.Moe

open Idealize.ShloMosaic

/-- A real number, among the extended ones. -/
def Fine (a : EReal) : Prop := ∃ x : ℝ, a = (x : EReal)

theorem Fine.of_ne {a : EReal} (h1 : a ≠ ⊤) (h2 : a ≠ ⊥) : Fine a := ⟨a.toReal, (EReal.coe_toReal h1 h2).symm⟩
theorem Fine.add {a b : EReal} : Fine a → Fine b → Fine (a + b) := fun ⟨x, hx⟩ ⟨y, hy⟩ => ⟨x + y, by rw [hx, hy, EReal.coe_add]⟩
theorem Fine.mul {a b : EReal} : Fine a → Fine b → Fine (a * b) := fun ⟨x, hx⟩ ⟨y, hy⟩ => ⟨x * y, by rw [hx, hy, EReal.coe_mul]⟩
theorem Fine.zero : Fine 0 := ⟨0, rfl⟩

theorem Fine.sum {ι : Type} (s : Finset ι) (f : ι → EReal) (h : ∀ i, Fine (f i)) : Fine (∑ i ∈ s, f i) :=
  Finset.sum_induction f Fine (fun _ _ => Fine.add) Fine.zero fun i _ => h i

/-- The largest of a row of reals is a real. -/
theorem top_fine (s : Fin 16 → EReal) (h : ∀ e, Fine (s e)) : Fine (top s) := by
  have he : top s = Finset.univ.sup s := by
    unfold top; rfl
  obtain ⟨e, -, h'⟩ := Finset.exists_mem_eq_sup (Finset.univ : Finset (Fin 16)) ⟨0, Finset.mem_univ _⟩ s
  rw [he, h']
  exact h e

/-- A softmax of reals is a nonnegative real. -/
theorem soft_fine (s : Fin 16 → EReal) (h : ∀ e, Fine (s e)) (e : Fin 16) : ∃ p : ℝ, 0 ≤ p ∧ soft s e = (p : EReal) := by
  obtain ⟨m, hm⟩ := top_fine s h
  choose f hf using h
  have hx : ∀ e, Ideal.exp (s e - top s) = ((Real.exp (f e - m) : ℝ) : EReal) := fun e => by
    rw [hf e, hm, ← EReal.coe_sub]; rfl
  have hs : (∑ e', Ideal.exp (s e' - top s)) = ((∑ e', Real.exp (f e' - m) : ℝ) : EReal) := by
    simp only [hx]
    exact (map_sum (⟨⟨fun x : ℝ => (x : EReal), rfl⟩, EReal.coe_add⟩ : ℝ →+ EReal) _ _).symm
  have hp : 0 < ∑ e', Real.exp (f e' - m) := Finset.sum_pos (fun _ _ => Real.exp_pos _) ⟨0, Finset.mem_univ _⟩
  refine ⟨Real.exp (f e - m) * (∑ e', Real.exp (f e' - m))⁻¹, by positivity, ?_⟩
  unfold soft Ideal.div
  rw [hs, hx, if_neg (by exact_mod_cast hp.ne'), EReal.coe_mul, EReal.coe_inv]

/-- A nonnegative real comes out of a sum of products. -/
theorem pull {ι : Type} (s : Finset ι) (p : ℝ) (hp : 0 ≤ p) (f : ι → EReal) : ∑ i ∈ s, (p : EReal) * f i = p * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hp) (EReal.coe_ne_top p)]

/-- A gated expert's products: the gate weighs the sum. -/
theorem pull_gate {ι : Type} (s : Finset ι) (p : ℝ) (hp : 0 ≤ p) (x w : ι → EReal) :
    ∑ k ∈ s, (x k * p) * w k = p * ∑ k ∈ s, x k * w k := by
  rw [← pull s p hp]
  exact Finset.sum_congr rfl fun k _ => by rw [mul_comm (x k), mul_assoc]

/-- The word of a quarter. -/
theorem ofBits_quarter : Ideal.ofBits FTy.bf16 16000#16 = ((1 / 4 : ℝ) : EReal) := by
  simp [Ideal.ofBits, Ideal.ieee]
  rw [← EReal.coe_mul]
  norm_num

/-- Four quarters of a sum. -/
theorem quarters (S : EReal) : ∑ _d : Fin 4, ((1 / 4 : ℝ) : EReal) * S = S := by
  have hq : (0 : EReal) ≤ ((1 / 4 : ℝ) : EReal) := EReal.coe_nonneg.mpr (by norm_num)
  have h2 : (0 : EReal) ≤ ((1 / 4 + 1 / 4 : ℝ) : EReal) := EReal.coe_nonneg.mpr (by norm_num)
  rw [Fin.sum_univ_four, ← EReal.right_distrib_of_nonneg hq hq, ← EReal.coe_add, add_assoc, ← EReal.right_distrib_of_nonneg hq hq, ← EReal.coe_add,
    ← EReal.right_distrib_of_nonneg h2 h2, ← EReal.coe_add]
  norm_num

end Cert.Moe

end
-- ==== Proof.Value.lean ====
/-
# `Value`: the kernel's result is the layer

The ring's sum is the sum of the four devices' partial products, and that is the layer's output.
-/
module

public import proofs.«01_k».proof.Proof.KerValue
public import proofs.«01_k».proof.Proof.Algebra
@[expose] public section

noncomputable section

namespace Cert.Moe

open Cert.KernelIdeal Cert.KernelIdeal.Gen
open Idealize.ShloMosaic

set_option maxHeartbeats 1000000

/-- The chunk that comes back to a device after hops along a lane is the one it set out with, -/
theorem org_back : ∀ (q : Fin 4) (l : Fin 8),
    org (8 * 3 + l.val) (dv l.val q) = q ∧ org (8 * 2 + l.val) (pv l.val (dv l.val q)) = q
    ∧ org (8 * 1 + l.val) (pv l.val (pv l.val (dv l.val q))) = q ∧ org l.val (pv l.val (pv l.val (pv l.val (dv l.val q)))) = q := by decide +kernel

/-- and the four devices it visits are all of them. -/
theorem visits : ∀ (q : Fin 4) (l : Fin 8), Function.Injective
    (![dv l.val q, pv l.val (dv l.val q), pv l.val (pv l.val (dv l.val q)), pv l.val (pv l.val (pv l.val (dv l.val q)))] : Fin 4 → Dev nD) := by decide +kernel

variable (P : Dev nD → Fin 4 → FVec Ideal S512x1024 .bf16)

/-- A tile's element is its chunk's. -/
theorem Pt_apply (h : ℕ) (l : Fin 8) (c : Dev nD) (q : Fin 4) (hq : org (8 * h + l.val) c = q) (r : Fin 512) (j : Fin 128) :
    Pt P (8 * h + l.val) c (ix2 r j) = P c q (ix2 r ⟨128 * l.val + j.val, by omega⟩) := by
  unfold Pt
  rw [hq]
  refine congrArg (P c q) (funext fun a => Fin.ext ?_)
  match a with
  | ⟨0, _⟩ => show 0 + 1 * r.val = r.val; omega
  | ⟨1, _⟩ => show 128 * ((8 * h + l.val) % 8) + 1 * j.val = 128 * l.val + j.val; omega

/-- A chunk's sum along a lane is the sum over the devices. -/
theorem tot_apply (q : Fin 4) (l : Fin 8) (r : Fin 512) (j : Fin 128) :
    tot P q l.val (ix2 r j) = (∑ d : Dev nD, P d q (ix2 r ⟨128 * l.val + j.val, by omega⟩) : EReal) := by
  obtain ⟨h3, h2, h1, h0⟩ := org_back q l
  have e := (Equiv.ofBijective _ (Finite.injective_iff_bijective.mp (visits q l))).sum_comp
    (fun d : Dev nD => (P d q (ix2 r ⟨128 * l.val + j.val, by omega⟩) : EReal))
  rw [← e, Fin.sum_univ_four]
  have p0 := Pt_apply P 0 l _ q (by rw [Nat.mul_zero, Nat.zero_add]; exact h0) r j
  rw [Nat.mul_zero, Nat.zero_add] at p0
  have p1 := Pt_apply P 1 l _ q h1 r j
  have p2 := Pt_apply P 2 l _ q h2 r j
  have p3 := Pt_apply P 3 l _ q h3 r j
  have t : tot P q l.val (ix2 r j) = ((Pt P (8 * 3 + l.val) (dv l.val q) (ix2 r j) : EReal) + (Pt P (8 * 2 + l.val) (pv l.val (dv l.val q)) (ix2 r j)
      + (Pt P (8 * 1 + l.val) (pv l.val (pv l.val (dv l.val q))) (ix2 r j) + Pt P l.val (pv l.val (pv l.val (pv l.val (dv l.val q)))) (ix2 r j))) : EReal) := by
    unfold tot
    rw [Ah, if_pos (by decide), Ah, if_pos (by decide), Ah, if_pos (by decide), Ah]
    rfl
  rw [t, p0, p1, p2, p3, ← add_assoc, ← add_assoc]
  rfl

/-- The result at an index: the devices' partial products there, summed. -/
theorem outF_apply (q : Fin 4) (r : Fin 512) (h : Fin 1024) :
    outF P (ix2 (tok q r) h) = (∑ d : Dev nD, P d q (ix2 r h) : EReal) := by
  have hr := r.isLt
  have hh := h.isLt
  have a0 : (tok q r).val / 512 = q.val := by show (512 * q.val + r.val) / 512 = _; omega
  have a1 : (tok q r).val % 512 = r.val := by show (512 * q.val + r.val) % 512 = _; omega
  have key : ∀ (q' : Fin 4) (l' : ℕ) (r' : Fin 512) (j' : Fin 128), q' = q → r' = r → l' = h.val / 128 → j'.val = h.val % 128 →
      tot P q' l' (ValueIdx.ix2 r' j') = (∑ d : Dev nD, P d q (ix2 r h) : EReal) := by
    intro q' l' r' j' h1 h2 h3 h4
    subst h1 h2 h3
    rw [← ix2_eq_valueIdx]
    have t := tot_apply P q' (⟨h.val / 128, by omega⟩ : Fin 8) r' j'
    have e : (⟨128 * (h.val / 128) + j'.val, by omega⟩ : Fin 1024) = h := Fin.ext (by show _ = h.val; dsimp only; omega)
    rw [e] at t
    exact t
  exact key _ _ _ _ (Fin.ext a0) (Fin.ext a1) rfl rfl

variable (xs : FVec Ideal S2048x512 .bf16) (rs : FVec Ideal S512x16 .bf16) (is : IVec S2048x1 32) (W : FVec Ideal (⟨3, ![16, 512, 1024]⟩ : Shape) .bf16)
  (ws : FVec Ideal S512x1024 .bf16)

/-- A gate is a nonnegative real. -/
theorem gate_fine (hx : ∀ i, Fine (xs i)) (hr : ∀ i, Fine (rs i)) (t : Fin 2048) (e : Fin 16) :
    ∃ p : ℝ, 0 ≤ p ∧ gate xs rs is t e = (p : EReal) := by
  unfold gate
  split_ifs
  · exact soft_fine _ (fun e => Fine.sum _ _ fun k => (hx _).mul (hr _)) e
  · exact ⟨0, le_refl _, rfl⟩

/-- One device's share at an index: its experts' gated sums and a quarter of the shared sum. -/
theorem share_apply (hx : ∀ i, Fine (xs i)) (hr : ∀ i, Fine (rs i)) (d : Dev nD) (es : FVec Ideal S4x512x1024 .bf16)
    (he : ∀ (j : Fin 4) (k : Fin 512) (h : Fin 1024), es (ix3 j k h) = W (ix3 (ex d j) k h)) (q : Fin 4) (r : Fin 512) (h : Fin 1024) :
    part (F := Ideal) xs rs is es ws d q (ix2 r h)
      = ((∑ j : Fin 4, gate xs rs is (tok q r) (ex d j) * ∑ k : Fin 512, xs (ix2 (tok q r) k) * W (ix3 (ex d j) k h))
        + ((1 / 4 : ℝ) : EReal) * ∑ k : Fin 512, xs (ix2 (tok q r) k) * ws (ix2 k h) : EReal) := by
  rw [part_apply, Fin.sum_univ_castSucc]
  refine congrArg₂ (fun a b : EReal => a + b) (Finset.sum_congr rfl fun j _ => ?_) ?_
  · obtain ⟨p, hp, hg⟩ := gate_fine xs rs is hx hr (tok q r) (ex d j)
    rw [hg, ← pull_gate _ p hp, ← hg]
    refine Finset.sum_congr rfl fun k _ => ?_
    rw [← he]
    have hj : (Fin.castSucc j).val < 4 := j.isLt
    unfold lhsB rhsB
    rw [dif_pos hj, dif_pos hj]
    rfl
  · rw [← pull _ _ (by norm_num)]
    refine Finset.sum_congr rfl fun k _ => ?_
    have hj : ¬ (Fin.last 4).val < 4 := by decide
    unfold lhsB rhsB
    rw [dif_neg hj, dif_neg hj, ofBits_quarter]
    show (xs _ : EReal) * (ws _ * _) = _
    rw [← mul_assoc, mul_comm]

/-- The devices' shares add up to the layer. -/
theorem shares (hx : ∀ i, Fine (xs i)) (hr : ∀ i, Fine (rs i)) (es : Dev nD → FVec Ideal S4x512x1024 .bf16)
    (he : ∀ (d : Dev nD) (j : Fin 4) (k : Fin 512) (h : Fin 1024), es d (ix3 j k h) = W (ix3 (ex d j) k h)) (q : Fin 4) (r : Fin 512) (h : Fin 1024) :
    (∑ d : Dev nD, part (F := Ideal) xs rs is (es d) ws d q (ix2 r h) : EReal) = layer xs rs is W ws (tok q r) h := by
  rw [Finset.sum_congr rfl fun d _ => share_apply xs rs is W ws hx hr d (es d) (he d) q r h, Finset.sum_add_distrib]
  unfold layer
  rw [add_comm]
  refine congrArg₂ (fun a b : EReal => a + b) (quarters _) ?_
  rw [← Fintype.sum_prod_type', ← (finProdFinEquiv (m := 4) (n := 4)).sum_comp]
  refine Finset.sum_congr rfl fun p _ => ?_
  have e : finProdFinEquiv (m := 4) (n := 4) p = ex p.1 p.2 := Fin.ext (Nat.add_comm _ _)
  rw [e]
  unfold gate
  split_ifs
  · rfl
  · exact zero_mul _

end Cert.Moe

end
-- ==== Proof.Result.lean ====
/-
# `Result`: the run's result array is the layer

The staged operands are the argument arrays whole, the result array ends at what the body left in its window, and that
is the layer of the whole arrays when each device holds its four experts of the sixteen.
-/
module

public import proofs.«01_k».proof.Proof.Launch
public import proofs.«01_k».proof.Proof.Value
public import Idealize.ShloMosaic.Lib.Layout
@[expose] public section

noncomputable section

namespace Cert.Moe

open Cert.KernelIdeal Cert.KernelIdeal.Gen
open Idealize.ShloMosaic
open Idealize.ShloMosaic.TcCoe

set_option maxHeartbeats 1000000

section
variable {F : FTy → Type} [FloatOps F]
variable (m : (ℓ : Loc nD τ sig) → Buf (Elt F) ℓ) (ρ : Dev nD → PrngReg) (c : Dev nD)

/-- Each staged operand is its argument, whole. -/
theorem stX_eq : stX m c = m ((c : Thread nD τ).loc main_arg0) :=
  Memref.read_access_unit_zero (Elt F) main_arg0 (funext fun a => by fin_cases a <;> decide) (fun a => by fin_cases a <;> decide) _
theorem stR_eq : stR m c = m ((c : Thread nD τ).loc main_arg1) :=
  Memref.read_access_unit_zero (Elt F) main_arg1 (funext fun a => by fin_cases a <;> decide) (fun a => by fin_cases a <;> decide) _
theorem stI_eq : stI m c = m ((c : Thread nD τ).loc main_arg2) :=
  Memref.read_access_unit_zero (Elt F) main_arg2 (funext fun a => by fin_cases a <;> decide) (fun a => by fin_cases a <;> decide) _
theorem stE_eq : stE m c = m ((c : Thread nD τ).loc main_arg3) :=
  Memref.read_access_unit_zero (Elt F) main_arg3 (funext fun a => by fin_cases a <;> decide) (fun a => by fin_cases a <;> decide) _
theorem stW_eq : stW m c = m ((c : Thread nD τ).loc main_arg4) :=
  Memref.read_access_unit_zero (Elt F) main_arg4 (funext fun a => by fin_cases a <;> decide) (fun a => by fin_cases a <;> decide) _

/-- The result array ends at the ring's sums. -/
theorem finalA_out : finalA m ρ c (5 : Fin 6) = outF (PP m) := by
  have h : (win0_5.blk (0 : Fin 1)).view.read (Elt F) (finalA m ρ c (5 : Fin 6)) = outF (PP m) := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  have hr := Memref.read_access_unit_zero (Elt F) main_v1 (off := fun a => (win0_5.index (0 : Fin 1)) a * main_v1.ty.shape.size a) (funext fun a => by fin_cases a <;> decide)
    (fun a => by fin_cases a <;> decide) (finalA m ρ c (5 : Fin 6))
  exact hr.symm.trans h
end

variable (m : (ℓ : Loc nD τ sig) → Buf (Elt Ideal) ℓ) (ρ : Dev nD → PrngReg)
variable (x : FVec Ideal S2048x512 .bf16) (r : FVec Ideal S512x16 .bf16) (n : IVec S2048x1 32) (W : FVec Ideal (⟨3, ![16, 512, 1024]⟩ : Shape) .bf16)
  (v : FVec Ideal S512x1024 .bf16)

/-- A device's block of the experts is its four of the sixteen. -/
theorem block_ex (d : Dev nD) (j : Fin 4) (k : Fin 512) (h : Fin 1024) :
    Layout.block ⟨3, ![4, 512, 1024]⟩ ⟨3, ![16, 512, 1024]⟩ 0 4 d W (by decide) (ix3 j k h) = W (ix3 (ex d j) k h) := by
  rw [Layout.block_apply]
  refine congrArg W (funext fun a => Fin.ext ?_)
  rw [Layout.Tiles.idx_val]
  match a with
  | ⟨0, _⟩ => show d.val * 4 + j.val = 4 * d.val + j.val; omega
  | ⟨1, _⟩ => rfl
  | ⟨2, _⟩ => rfl

/-- Every device's result is the layer of the whole arrays. -/
theorem result (hx : ∀ i, Fine (x i)) (hr : ∀ i, Fine (r i))
    (h0 : ∀ d : Dev nD, m ((d : Thread nD τ).loc main_arg0) = x) (h1 : ∀ d : Dev nD, m ((d : Thread nD τ).loc main_arg1) = r)
    (h2 : ∀ d : Dev nD, m ((d : Thread nD τ).loc main_arg2) = n)
    (h3 : ∀ d : Dev nD, m ((d : Thread nD τ).loc main_arg3) = Layout.block ⟨3, ![4, 512, 1024]⟩ ⟨3, ![16, 512, 1024]⟩ 0 4 d W (by decide))
    (h4 : ∀ d : Dev nD, m ((d : Thread nD τ).loc main_arg4) = v) (t : Fin 2048) (h : Fin 1024) :
    outF (PP m) (ix2 t h) = layer x r n W v t h := by
  have ht := t.isLt
  have e : t = tok ⟨t.val / 512, by omega⟩ ⟨t.val % 512, Nat.mod_lt _ (by decide)⟩ := Fin.ext (by show t.val = 512 * (t.val / 512) + t.val % 512; omega)
  rw [e, outF_apply, ← shares x r n W v hx hr (fun d => stE m d) (fun d j k h => by rw [stE_eq, h3]; exact block_ex W d j k h)]
  refine Finset.sum_congr rfl fun d _ => ?_
  unfold PP
  rw [stX_eq, stR_eq, stI_eq, stW_eq, h0, h1, h2, h4]

end Cert.Moe

end
-- ==== Proof.RefValue.lean ====
/-
# `RefValue`: the reference's result, read at an index

The reference's composed term is `Spec.layer` at each index.
-/
module

public import proofs.«01_k».proof.Proof.Spec
@[expose] public section

noncomputable section

namespace Cert.Moe

open Idealize.ShloMosaic Cert.ReferenceIdeal Cert.ReferenceIdeal.Gen

/-- The reference's scores. -/
def refScores (a0 : FVec Ideal S2048x512 .bf16) (a1 : FVec Ideal S512x16 .bf16) : FVec Ideal S2048x16 .f32 :=
  Host.dotGeneral dot_S2048x512_S512x16_S2048x16_1_0_0_1_n_n none (extf .f32 a0 bitsLt_bf16_f32) (extf .f32 a1 bitsLt_bf16_f32)
/-- The exponentials of its scores less their row's largest. -/
def refExp (a0 : FVec Ideal S2048x512 .bf16) (a1 : FVec Ideal S512x16 .bf16) : FVec Ideal S2048x16 .f32 :=
  Host.exp (subf (refScores a0 a1) (broadcastInDim S2048x16 ![0, 1] bcast_S2048x1_S2048x16_0_1 (broadcastInDim S2048x1 ![0] bcast_S2048_S2048x1_0 (Host.reduce FloatOps.maximumf (refScores a0 a1) (constant S_ .f32 0xFF800000#32) reducesTo_S2048x16_S2048_d1 h_S_))))
/-- Its probabilities. -/
def refProbs (a0 : FVec Ideal S2048x512 .bf16) (a1 : FVec Ideal S512x16 .bf16) : FVec Ideal S2048x16 .f32 :=
  Host.divf (refExp a0 a1) (broadcastInDim S2048x16 ![0, 1] bcast_S2048x1_S2048x16_0_1 (broadcastInDim S2048x1 ![0] bcast_S2048_S2048x1_0 (Host.reduceAdd (refExp a0 a1) (constant S_ .f32 0x00000000#32) reducesTo_S2048x16_S2048_d1 h_S_)))
/-- Its result. -/
def refOut (a0 : FVec Ideal S2048x512 .bf16) (a1 : FVec Ideal S512x16 .bf16) (a2 : IVec S2048x1 32) (a3 : FVec Ideal S16x512x1024 .bf16)
    (a4 : FVec Ideal S512x1024 .bf16) : FVec Ideal S2048x1024 .bf16 :=
  truncf .bf16 (addf (Host.dotGeneral dot_S2048x512_S512x1024_S2048x1024_1_0_0_1_n_n none (extf .f32 a0 bitsLt_bf16_f32) (extf .f32 a4 bitsLt_bf16_f32)) (Host.reduceAdd (select (broadcastInDim S16x2048x1024 ![0, 1, 2] bcast_S16x2048x1_S16x2048x1024_0_1_2 (broadcastInDim S16x2048x1 ![0, 1] bcast_S16x2048_S16x2048x1_0_1 (cmpi .eq (broadcastInDim S16x2048 ![0, 1] bcast_S16x1_S16x2048_0_1 (broadcastInDim S16x1 ![0] bcast_S16_S16x1_0 (iotaInDim S16 32 0))) (broadcastInDim S16x2048 ![0, 1] bcast_S1x2048_S16x2048_0_1 (broadcastInDim S1x2048 ![1] bcast_S2048_S1x2048_1 (shapeCast _ a2 shapeCasts_S2048x1_S2048)))))) (mulf (broadcastInDim S16x2048x1024 ![0, 1, 2] bcast_S16x2048x1_S16x2048x1024_0_1_2 (broadcastInDim S16x2048x1 ![0, 1] bcast_S16x2048_S16x2048x1_0_1 (transpose S16x2048 [1, 0] (refProbs a0 a1) transposes_S2048x16_S16x2048_1_0))) (transpose S16x2048x1024 [0, 2, 1] (Host.dotGeneral dot_S16x512x1024_S2048x512_S16x1024x2048_1_1_02_0_n_n none (extf .f32 a3 bitsLt_bf16_f32) (extf .f32 a0 bitsLt_bf16_f32)) transposes_S16x1024x2048_S16x2048x1024_0_2_1)) (broadcastInDim S16x2048x1024 ![] bcast_S_S16x2048x1024 (id (constant S_ .f32 0x00000000#32)))) (constant S_ .f32 0x00000000#32) reducesTo_S16x2048x1024_S2048x1024_d0 h_S_)) bitsLt_bf16_f32

variable (a0 : FVec Ideal S2048x512 .bf16) (a1 : FVec Ideal S512x16 .bf16) (a2 : IVec S2048x1 32) (a3 : FVec Ideal S16x512x1024 .bf16)
    (a4 : FVec Ideal S512x1024 .bf16)

set_option maxRecDepth 16384

/-- The scores, read. -/
theorem refScores_apply (t : Fin 2048) (e : Fin 16) : refScores a0 a1 (ix2 t e) = score a0 a1 t e := by
  pointwise [refScores]
  rfl

/-- The exponentials, read. -/
theorem refExp_apply (t : Fin 2048) (e : Fin 16) : refExp a0 a1 (ix2 t e) = Ideal.exp (score a0 a1 t e - top (score a0 a1 t)) := by
  pointwise [refExp]
  simp only [refScores_apply, ofBits_ninf]
  rfl

/-- The probabilities, read. -/
theorem refProbs_apply (t : Fin 2048) (e : Fin 16) : refProbs a0 a1 (ix2 t e) = soft (score a0 a1 t) e := by
  pointwise [refProbs]
  simp only [refExp_apply]
  rfl

/-- The reference's result at token `t` and column `h`. -/
theorem refOut_apply (t : Fin 2048) (h : Fin 1024) : refOut a0 a1 a2 a3 a4 (ix2 t h) = layer a0 a1 a2 a3 a4 t h := by
  pointwise [refOut]
  simp only [refProbs_apply, select_eq, mul_comm (a3 _), id, constant_zero]
  rfl

end Cert.Moe

end
-- ==== Proof.Pre.lean ====
/-
# `Pre`: what the precondition says

No infinity among the tokens and the router's weights: each of their entries is a real number.
-/
module

public import proofs.«01_k».proof.Pre_router_finite_KernelIdeal
public import proofs.«01_k».proof.Proof.Algebra
public import Idealize.ShloMosaic.Lib.KernelVsHost
public import Idealize.ShloMosaic.Lib.ReduceAll
public import Idealize.ShloMosaic.Lib.Affine
@[expose] public section

noncomputable section

namespace Cert.Moe

open Idealize.ShloMosaic
open Cert.Pre_router_finite_KernelIdeal

/-- A value whose magnitude is below infinity is a real. -/
theorem fine_of_abs (a : Ideal .f32)
    (h : FloatOps.cmpf .olt (FloatOps.hostAbsf a) (FloatOps.ofBits (F := Ideal) .f32 0x7F800000#32) = 1#1) : Fine a := by
  rw [← Ideal.xori_weird_eq_hostAbsf_olt_inf] at h
  have hn : ¬ ((a : EReal) = ⊤ ∨ (a : EReal) = ⊥) := by
    intro hw
    have e : FloatOps.weird a = 1#1 := by
      show BitVec.ofBool (decide ((a : EReal) = ⊤ ∨ (a : EReal) = ⊥)) = 1#1
      rw [decide_eq_true hw]; rfl
    rw [e] at h
    exact absurd h (by decide)
  push Not at hn
  exact Fine.of_ne hn.1 hn.2

instance : Subsingleton S_.Idx := ⟨fun i j => funext fun a => a.elim0⟩

/-- Under the precondition the tokens and the router's weights are real. -/
theorem pre_fine [Facts] (x : FVec Ideal S2048x512 .bf16) (r : FVec Ideal S512x16 .bf16) (n : IVec S2048x1 32)
    (w : FVec Ideal S4x512x1024 .bf16) (v : FVec Ideal S512x1024 .bf16) (h : fn (F := Ideal) x r n w v = fun _ => 1#1) :
    (∀ i, Fine (x i)) ∧ ∀ i, Fine (r i) := by
  have h0 := congrFun h (fun a => a.elim0)
  obtain ⟨h1, h2⟩ := IntOp.andi_eq_one.1 h0
  exact ⟨fun i => fine_of_abs _ (Host.reduce_andi_all _ _ _ _ _ h1 i), fun i => fine_of_abs _ (Host.reduce_andi_all _ _ _ _ _ h2 i)⟩

end Cert.Moe

end
-- ==== Proof.lean ====
/-
# The certificate

Assembles the claims: the frames of the three programs, all from one run of the kernel over any float values
(`Launch.run_main`) and from the reference's generated run; and that the kernel's result is the reference's, both being
the layer of `Spec`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_router_finite_KernelIdeal
public import proofs.«01_k».proof.Proof.Gen.Pre_router_finite_ReferenceIdeal
public import proofs.«01_k».proof.Proof.Launch
public import proofs.«01_k».proof.Proof.Result
public import proofs.«01_k».proof.Proof.RefValue
public import proofs.«01_k».proof.Proof.Pre
public import Idealize.ShloMosaic.Lib.Quiescent

@[expose] public section

noncomputable section

namespace Cert.Proof

open Idealize.ShloMosaic Idealize.SL.Sem
open Cert.KernelIdeal
open Cert.Moe

variable {F : FTy → Type} [FloatOps F]

/-- An input's array ends as it began: no window writes it back. -/
theorem finalA_in (m : (ℓ : Loc nD τ sig) → Buf (Elt F) ℓ) (ρ : Dev nD → PrngReg) (c : Dev nD) (w : Fin cfg0.W)
    (hw : (cfg0.win w).isOut = false) : finalA m ρ c w = m ((cfg0.win w).arr.view.loc (c.tc : Thread nD τ)) :=
  (dats m ρ 0 c).arrAt_in w hw _

/-- What both frames of the kernel say, over any float values. -/
theorem frame_any (m : (ℓ : Loc nD τ sig) → Buf (Elt F) ℓ) (ρ : Dev nD → PrngReg) {r : PUnit × MemSt nD τ sig (Elt F)}
    (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans (finalA_in m ρ c 0 rfl), (h c (1 : Fin 6)).trans (finalA_in m ρ c 1 rfl),
   (h c (2 : Fin 6)).trans (finalA_in m ρ c 2 rfl), (h c (3 : Fin 6)).trans (finalA_in m ρ c 3 rfl),
   (h c (4 : Fin 6)).trans (finalA_in m ρ c 4 rfl)⟩

/-- The idealized kernel terminates, keeps its arguments and leaves every counter at zero. -/
theorem frame_kernelIdeal : Cert.quiescent_KernelIdeal := fun m ρ _ =>
  (θ_run Cert.KernelIdeal.defs _ _).mono (fun _ h => ⟨fun c => frame_any m ρ h.1 c, h.2⟩) (run_main (F := Ideal) m ρ)

/-- The two printed kernels have the same bodies, label by label. -/
theorem bodies_eq : (Cert.Kernel.defs₀ : Defs nD τ sig (Elt F) Λ₀) = Cert.KernelIdeal.defs₀ := by
  refine congrArg Defs.onTc (funext fun l => ?_)
  match l with
  | ⟨0, _⟩ => exact rfl

/-- So they have the same table of functions. -/
theorem defs_eq : (Cert.Kernel.defs : Defs nD τ sig (Elt F) _) = Cert.KernelIdeal.defs :=
  congrArg (Pipeline.defs pcfgs) bodies_eq

/-- The kernel as printed does too: its text is the idealized one's. -/
theorem frame_kernel : Cert.quiescent_Kernel := fun m ρ _ => by
  have h : θ_run (Cert.KernelIdeal.defs (F := Bits)) (onTc (τ := τ) (main (F := Bits))) (Moe.s₀ m ρ) _ :=
    (θ_run Cert.KernelIdeal.defs _ _).mono (fun r (h : QC m ρ r ∧ r.2.sem = fun _ => 0) =>
      And.intro (fun c => frame_any m ρ h.1 c) h.2) (run_main (F := Bits) m ρ)
  rw [← defs_eq] at h
  exact h

/-- The reference terminates, keeps its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same array: the layer, over the extended reals. -/
theorem algebraic : Cert.algebraic_KernelIdeal_ReferenceIdeal_pre_router_finite_KernelIdeal
    (hPre_router_finite_KernelIdeal := Cert.Pre_router_finite_KernelIdeal.Gen.facts) := by
  intro m ρ m' ρ' hpre hargs
  obtain ⟨hx, hr⟩ := pre_fine _ _ _ _ _ (hpre 0)
  rw [(hargs 0).1] at hx
  rw [(hargs 0).2.1] at hr
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r (h : QC m ρ r ∧ r.2.sem = fun _ => 0) c =>
      ⟨((h.1 c (5 : Fin 6)).trans (finalA_out m ρ c)).trans (funext fun i => ?_), frame_any m ρ h.1 c⟩) (run_main (F := Ideal) m ρ)
    obtain ⟨t, k, rfl⟩ : ∃ (t : Fin 2048) (k : Fin 1024), i = ix2 t k := ⟨i (0 : Fin 2), i (1 : Fin 2), (ValueIdx.eq_ix2 (n0 := 2048) (n1 := 1024) i).trans (ix2_eq_valueIdx _ _).symm⟩
    rw [refOut_apply]
    exact result m _ _ _ _ _ hx hr (fun d => (hargs d).1) (fun d => (hargs d).2.1) (fun d => (hargs d).2.2.1)
      (fun d => (hargs d).2.2.2.1) (fun d => (hargs d).2.2.2.2) t k
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  Cert.Pre_router_finite_KernelIdeal.Gen.facts, Cert.Pre_router_finite_ReferenceIdeal.Gen.facts,
  frame_kernel, frame_kernelIdeal, fun m ρ _ => frame_kernelIdeal m ρ trivial, frame_reference, fun m ρ _ => frame_reference m ρ trivial,
  trivial, algebraic⟩

end Cert.Proof

end
